-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S336x1024 : Shape := ⟨2, ![336, 1024]⟩
abbrev S2 : Shape := ⟨1, ![2]⟩
abbrev S8 : Shape := ⟨1, ![8]⟩
abbrev S_ : Shape := ⟨0, ![]⟩
abbrev S1 : Shape := ⟨1, ![1]⟩
abbrev S168x1024 : Shape := ⟨2, ![168, 1024]⟩
abbrev S176x1024 : Shape := ⟨2, ![176, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S336x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v50 : BitVec 32 := Scalar.muli v9 c8_i32_30
  let v51 : BitVec 32 := Scalar.addi c0_i32_31 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v52 : BitVec 32 := Scalar.muli v5 c4_i32_32
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v54 : BitVec 32 := Scalar.muli v8 c1_i32_33
  let v55 : BitVec 32 := Scalar.addi v53 v54
  v55.toNat
def k0_dev2 (d0 : Dev nD) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v56 : BitVec 32 := Scalar.muli v2 c8_i32_35
  let v57 : BitVec 32 := Scalar.addi c0_i32_36 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_37 : BitVec 32 := 4#32
  let v58 : BitVec 32 := Scalar.muli v25 c4_i32_37
  let v59 : BitVec 32 := Scalar.addi v57 v58
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_38 : BitVec 32 := 1#32
  let v60 : BitVec 32 := Scalar.muli v28 c1_i32_38
  let v61 : BitVec 32 := Scalar.addi v59 v60
  v61.toNat
def k0_dev3 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v62 : BitVec 32 := Scalar.muli v2 c8_i32_40
  let v63 : BitVec 32 := Scalar.addi c0_i32_41 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_42 : BitVec 32 := 4#32
  let v64 : BitVec 32 := Scalar.muli v41 c4_i32_42
  let v65 : BitVec 32 := Scalar.addi v63 v64
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_43 : BitVec 32 := 1#32
  let v66 : BitVec 32 := Scalar.muli v44 c1_i32_43
  let v67 : BitVec 32 := Scalar.addi v65 v66
  v67.toNat
def k0_off1 (d0 : Dev nD) (c0_i32_44 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c512_i32 : BitVec 32 := 512#32
  let v68 : BitVec 32 := Scalar.muli v12 c512_i32
  let c1_i32_27 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v46 : BitVec 32 := Scalar.subi c1_i32_27 v2
  let c176_i32_28 : BitVec 32 := 176#32
  let v47 : BitVec 32 := Scalar.muli v46 c176_i32_28
  let v69 : BitVec 32 := Scalar.addi v68 v47
  let v70 : BitVec 32 := Scalar.addi v69 c0_i32_44
  let c0_i32_53 : BitVec 32 := 0#32
  ![v70.toNat, 0]
def k0_dev4 (d0 : Dev nD) : Nat :=
  let c0_i32_48 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_47 : BitVec 32 := 8#32
  let v71 : BitVec 32 := Scalar.muli v9 c8_i32_47
  let v72 : BitVec 32 := Scalar.addi c0_i32_48 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v73 : BitVec 32 := Scalar.muli v5 c4_i32_49
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v75 : BitVec 32 := Scalar.muli v8 c1_i32_50
  let v76 : BitVec 32 := Scalar.addi v74 v75
  v76.toNat
def k0_dev5 (d0 : Dev nD) : Nat :=
  let c0_i32_57 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_56 : BitVec 32 := 8#32
  let v85 : BitVec 32 := Scalar.muli v9 c8_i32_56
  let v86 : BitVec 32 := Scalar.addi c0_i32_57 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v87 : BitVec 32 := Scalar.muli v5 c4_i32_58
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v89 : BitVec 32 := Scalar.muli v8 c1_i32_59
  let v90 : BitVec 32 := Scalar.addi v88 v89
  v90.toNat
def k0_off2 (d0 : Dev nD) (c0_i32_72 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c512_i32 : BitVec 32 := 512#32
  let v68 : BitVec 32 := Scalar.muli v12 c512_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c176_i32 : BitVec 32 := 176#32
  let v45 : BitVec 32 := Scalar.muli v2 c176_i32
  let v107 : BitVec 32 := Scalar.addi v68 v45
  let v108 : BitVec 32 := Scalar.addi v107 c0_i32_72
  let v109 : Index := Scalar.indexCast v108
  let c0 : Index := 0#32
  ![v109.toNat, 0]
def k0_off3 (d0 : Dev nD) (c0_i32_77 : BitVec 32) (c0_i32_85 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v118 : BitVec 32 := Scalar.addi v12 c0_i32_77
  let c8_i32_78 : BitVec 32 := 8#32
  let c0_i32_79 : BitVec 32 := 0#32
  let v119 : BitVec 1 := Scalar.cmpi .eq c8_i32_78 c0_i32_79
  let c1_i32_80 : BitVec 32 := 1#32
  let v120 : BitVec 32 := Scalar.select v119 c1_i32_80 c8_i32_78
  let v121 : BitVec 32 := Scalar.remsi v118 v120
  let c0_i32_82 : BitVec 32 := 0#32
  let v123 : BitVec 1 := Scalar.cmpi .slt v121 c0_i32_82
  let c0_i32_83 : BitVec 32 := 0#32
  let v124 : BitVec 1 := Scalar.cmpi .slt v120 c0_i32_83
  let v125 : BitVec 1 := Scalar.xori v123 v124
  let c0_i32_81 : BitVec 32 := 0#32
  let v122 : BitVec 1 := Scalar.cmpi .ne v121 c0_i32_81
  let v126 : BitVec 1 := Scalar.andi v125 v122
  let v127 : BitVec 32 := Scalar.addi v121 v120
  let v128 : BitVec 32 := Scalar.select v126 v127 v121
  let c512_i32_84 : BitVec 32 := 512#32
  let v129 : BitVec 32 := Scalar.muli v128 c512_i32_84
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c176_i32 : BitVec 32 := 176#32
  let v45 : BitVec 32 := Scalar.muli v2 c176_i32
  let v130 : BitVec 32 := Scalar.addi v129 v45
  let v131 : BitVec 32 := Scalar.addi v130 c0_i32_85
  let c0_i32_92 : BitVec 32 := 0#32
  ![v131.toNat, 0]
def k0_off3_at (r : Fin 12) : BitVec 32 × BitVec 32 :=
  if r.val < 6 then
    if r.val < 3 then
      if r.val < 1 then
        (0#32, 0#32)
      else
        if r.val < 2 then
          (0#32, 168#32)
        else
          (4294967295#32, 0#32)
    else
      if r.val < 4 then
        (4294967295#32, 168#32)
      else
        if r.val < 5 then
          (1#32, 0#32)
        else
          (1#32, 168#32)
  else
    if r.val < 9 then
      if r.val < 7 then
        (4294967294#32, 0#32)
      else
        if r.val < 8 then
          (4294967294#32, 168#32)
        else
          (2#32, 0#32)
    else
      if r.val < 10 then
        (2#32, 168#32)
      else
        if r.val < 11 then
          (4294967293#32, 0#32)
        else
          (3#32, 168#32)
def k0_dev6 (d0 : Dev nD) : Nat :=
  let c0_i32_89 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_88 : BitVec 32 := 8#32
  let v132 : BitVec 32 := Scalar.muli v2 c8_i32_88
  let v133 : BitVec 32 := Scalar.addi c0_i32_89 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_90 : BitVec 32 := 4#32
  let v134 : BitVec 32 := Scalar.muli v25 c4_i32_90
  let v135 : BitVec 32 := Scalar.addi v133 v134
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_91 : BitVec 32 := 1#32
  let v136 : BitVec 32 := Scalar.muli v28 c1_i32_91
  let v137 : BitVec 32 := Scalar.addi v135 v136
  v137.toNat
def k0_dev7 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v158 : BitVec 32 := Scalar.muli v2 c8_i32_105
  let v159 : BitVec 32 := Scalar.addi c0_i32_106 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_107 : BitVec 32 := 4#32
  let v160 : BitVec 32 := Scalar.muli v41 c4_i32_107
  let v161 : BitVec 32 := Scalar.addi v159 v160
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_108 : BitVec 32 := 1#32
  let v162 : BitVec 32 := Scalar.muli v44 c1_i32_108
  let v163 : BitVec 32 := Scalar.addi v161 v162
  v163.toNat
def k0_dev8 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v205 : BitVec 32 := Scalar.muli v2 c8_i32_136
  let v206 : BitVec 32 := Scalar.addi c0_i32_137 v205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_138 : BitVec 32 := 4#32
  let v207 : BitVec 32 := Scalar.muli v25 c4_i32_138
  let v208 : BitVec 32 := Scalar.addi v206 v207
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_139 : BitVec 32 := 1#32
  let v209 : BitVec 32 := Scalar.muli v28 c1_i32_139
  let v210 : BitVec 32 := Scalar.addi v208 v209
  v210.toNat
def k0_dev9 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v231 : BitVec 32 := Scalar.muli v2 c8_i32_153
  let v232 : BitVec 32 := Scalar.addi c0_i32_154 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_155 : BitVec 32 := 4#32
  let v233 : BitVec 32 := Scalar.muli v41 c4_i32_155
  let v234 : BitVec 32 := Scalar.addi v232 v233
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_156 : BitVec 32 := 1#32
  let v235 : BitVec 32 := Scalar.muli v44 c1_i32_156
  let v236 : BitVec 32 := Scalar.addi v234 v235
  v236.toNat
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c512_i32_159 : BitVec 32 := 512#32
  let v243 : BitVec 32 := Scalar.muli v12 c512_i32_159
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c336_i32 : BitVec 32 := 336#32
  let v48 : BitVec 32 := Scalar.muli v2 c336_i32
  let v244 : BitVec 32 := Scalar.addi v243 v48
  let c0_i32_166 : BitVec 32 := 0#32
  ![v244.toNat, 0]
def k0_dev10 (d0 : Dev nD) : Nat :=
  let c0_i32_163 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_162 : BitVec 32 := 8#32
  let v245 : BitVec 32 := Scalar.muli v9 c8_i32_162
  let v246 : BitVec 32 := Scalar.addi c0_i32_163 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v247 : BitVec 32 := Scalar.muli v5 c4_i32_164
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v249 : BitVec 32 := Scalar.muli v8 c1_i32_165
  let v250 : BitVec 32 := Scalar.addi v248 v249
  v250.toNat
def k0_dev11 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v289 : BitVec 32 := Scalar.muli v2 c8_i32_198
  let v290 : BitVec 32 := Scalar.addi c0_i32_199 v289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_200 : BitVec 32 := 4#32
  let v291 : BitVec 32 := Scalar.muli v25 c4_i32_200
  let v292 : BitVec 32 := Scalar.addi v290 v291
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_201 : BitVec 32 := 1#32
  let v293 : BitVec 32 := Scalar.muli v28 c1_i32_201
  let v294 : BitVec 32 := Scalar.addi v292 v293
  v294.toNat
def k0_dev12 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_223 : BitVec 32 := 8#32
  let v325 : BitVec 32 := Scalar.muli v2 c8_i32_223
  let v326 : BitVec 32 := Scalar.addi c0_i32_224 v325
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_225 : BitVec 32 := 4#32
  let v327 : BitVec 32 := Scalar.muli v25 c4_i32_225
  let v328 : BitVec 32 := Scalar.addi v326 v327
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_226 : BitVec 32 := 1#32
  let v329 : BitVec 32 := Scalar.muli v28 c1_i32_226
  let v330 : BitVec 32 := Scalar.addi v328 v329
  v330.toNat
def k0_off5 (d0 : Dev nD) (c1_i32_229 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v337 : BitVec 32 := Scalar.subi v12 c1_i32_229
  let c8_i32_230 : BitVec 32 := 8#32
  let c0_i32_231 : BitVec 32 := 0#32
  let v338 : BitVec 1 := Scalar.cmpi .eq c8_i32_230 c0_i32_231
  let c1_i32_232 : BitVec 32 := 1#32
  let v339 : BitVec 32 := Scalar.select v338 c1_i32_232 c8_i32_230
  let v340 : BitVec 32 := Scalar.remsi v337 v339
  let c0_i32_234 : BitVec 32 := 0#32
  let v342 : BitVec 1 := Scalar.cmpi .slt v340 c0_i32_234
  let c0_i32_235 : BitVec 32 := 0#32
  let v343 : BitVec 1 := Scalar.cmpi .slt v339 c0_i32_235
  let v344 : BitVec 1 := Scalar.xori v342 v343
  let c0_i32_233 : BitVec 32 := 0#32
  let v341 : BitVec 1 := Scalar.cmpi .ne v340 c0_i32_233
  let v345 : BitVec 1 := Scalar.andi v344 v341
  let v346 : BitVec 32 := Scalar.addi v340 v339
  let v347 : BitVec 32 := Scalar.select v345 v346 v340
  let c512_i32_236 : BitVec 32 := 512#32
  let v348 : BitVec 32 := Scalar.muli v347 c512_i32_236
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c336_i32 : BitVec 32 := 336#32
  let v48 : BitVec 32 := Scalar.muli v2 c336_i32
  let v349 : BitVec 32 := Scalar.addi v348 v48
  let c0_i32_243 : BitVec 32 := 0#32
  ![v349.toNat, 0]
def k0_dev13 (d0 : Dev nD) : Nat :=
  let c0_i32_240 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_239 : BitVec 32 := 8#32
  let v350 : BitVec 32 := Scalar.muli v9 c8_i32_239
  let v351 : BitVec 32 := Scalar.addi c0_i32_240 v350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_241 : BitVec 32 := 4#32
  let v352 : BitVec 32 := Scalar.muli v5 c4_i32_241
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_242 : BitVec 32 := 1#32
  let v354 : BitVec 32 := Scalar.muli v8 c1_i32_242
  let v355 : BitVec 32 := Scalar.addi v353 v354
  v355.toNat
def k0_dev14 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v386 : BitVec 32 := Scalar.muli v2 c8_i32_264
  let v387 : BitVec 32 := Scalar.addi c0_i32_265 v386
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_266 : BitVec 32 := 4#32
  let v388 : BitVec 32 := Scalar.muli v41 c4_i32_266
  let v389 : BitVec 32 := Scalar.addi v387 v388
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_267 : BitVec 32 := 1#32
  let v390 : BitVec 32 := Scalar.muli v44 c1_i32_267
  let v391 : BitVec 32 := Scalar.addi v389 v390
  v391.toNat
def k0_dev15 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v422 : BitVec 32 := Scalar.muli v2 c8_i32_289
  let v423 : BitVec 32 := Scalar.addi c0_i32_290 v422
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_291 : BitVec 32 := 4#32
  let v424 : BitVec 32 := Scalar.muli v41 c4_i32_291
  let v425 : BitVec 32 := Scalar.addi v423 v424
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_292 : BitVec 32 := 1#32
  let v426 : BitVec 32 := Scalar.muli v44 c1_i32_292
  let v427 : BitVec 32 := Scalar.addi v425 v426
  v427.toNat
def k0_off6 (d0 : Dev nD) (c1_i32_295 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v434 : BitVec 32 := Scalar.addi v12 c1_i32_295
  let c8_i32_296 : BitVec 32 := 8#32
  let c0_i32_297 : BitVec 32 := 0#32
  let v435 : BitVec 1 := Scalar.cmpi .eq c8_i32_296 c0_i32_297
  let c1_i32_298 : BitVec 32 := 1#32
  let v436 : BitVec 32 := Scalar.select v435 c1_i32_298 c8_i32_296
  let v437 : BitVec 32 := Scalar.remsi v434 v436
  let c0_i32_300 : BitVec 32 := 0#32
  let v439 : BitVec 1 := Scalar.cmpi .slt v437 c0_i32_300
  let c0_i32_301 : BitVec 32 := 0#32
  let v440 : BitVec 1 := Scalar.cmpi .slt v436 c0_i32_301
  let v441 : BitVec 1 := Scalar.xori v439 v440
  let c0_i32_299 : BitVec 32 := 0#32
  let v438 : BitVec 1 := Scalar.cmpi .ne v437 c0_i32_299
  let v442 : BitVec 1 := Scalar.andi v441 v438
  let v443 : BitVec 32 := Scalar.addi v437 v436
  let v444 : BitVec 32 := Scalar.select v442 v443 v437
  let c512_i32_302 : BitVec 32 := 512#32
  let v445 : BitVec 32 := Scalar.muli v444 c512_i32_302
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c336_i32 : BitVec 32 := 336#32
  let v48 : BitVec 32 := Scalar.muli v2 c336_i32
  let v446 : BitVec 32 := Scalar.addi v445 v48
  let c0_i32_309 : BitVec 32 := 0#32
  ![v446.toNat, 0]
def k0_dev16 (d0 : Dev nD) : Nat :=
  let c0_i32_306 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_305 : BitVec 32 := 8#32
  let v447 : BitVec 32 := Scalar.muli v9 c8_i32_305
  let v448 : BitVec 32 := Scalar.addi c0_i32_306 v447
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_307 : BitVec 32 := 4#32
  let v449 : BitVec 32 := Scalar.muli v5 c4_i32_307
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_308 : BitVec 32 := 1#32
  let v451 : BitVec 32 := Scalar.muli v8 c1_i32_308
  let v452 : BitVec 32 := Scalar.addi v450 v451
  v452.toNat
def k0_dev17 (d0 : Dev nD) : Nat :=
  let c0_i32_350 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_349 : BitVec 32 := 8#32
  let v499 : BitVec 32 := Scalar.muli v2 c8_i32_349
  let v500 : BitVec 32 := Scalar.addi c0_i32_350 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_351 : BitVec 32 := 4#32
  let v501 : BitVec 32 := Scalar.muli v25 c4_i32_351
  let v502 : BitVec 32 := Scalar.addi v500 v501
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_352 : BitVec 32 := 1#32
  let v503 : BitVec 32 := Scalar.muli v28 c1_i32_352
  let v504 : BitVec 32 := Scalar.addi v502 v503
  v504.toNat
def k0_dev18 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_373 : BitVec 32 := 8#32
  let v535 : BitVec 32 := Scalar.muli v2 c8_i32_373
  let v536 : BitVec 32 := Scalar.addi c0_i32_374 v535
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_375 : BitVec 32 := 4#32
  let v537 : BitVec 32 := Scalar.muli v25 c4_i32_375
  let v538 : BitVec 32 := Scalar.addi v536 v537
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_376 : BitVec 32 := 1#32
  let v539 : BitVec 32 := Scalar.muli v28 c1_i32_376
  let v540 : BitVec 32 := Scalar.addi v538 v539
  v540.toNat
def k0_dev19 (d0 : Dev nD) : Nat :=
  let c0_i32_390 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_389 : BitVec 32 := 8#32
  let v560 : BitVec 32 := Scalar.muli v9 c8_i32_389
  let v561 : BitVec 32 := Scalar.addi c0_i32_390 v560
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v562 : BitVec 32 := Scalar.muli v5 c4_i32_391
  let v563 : BitVec 32 := Scalar.addi v561 v562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v564 : BitVec 32 := Scalar.muli v8 c1_i32_392
  let v565 : BitVec 32 := Scalar.addi v563 v564
  v565.toNat
def k0_dev20 (d0 : Dev nD) : Nat :=
  let c0_i32_415 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_414 : BitVec 32 := 8#32
  let v596 : BitVec 32 := Scalar.muli v2 c8_i32_414
  let v597 : BitVec 32 := Scalar.addi c0_i32_415 v596
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_416 : BitVec 32 := 4#32
  let v598 : BitVec 32 := Scalar.muli v41 c4_i32_416
  let v599 : BitVec 32 := Scalar.addi v597 v598
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_417 : BitVec 32 := 1#32
  let v600 : BitVec 32 := Scalar.muli v44 c1_i32_417
  let v601 : BitVec 32 := Scalar.addi v599 v600
  v601.toNat
def k0_dev21 (d0 : Dev nD) : Nat :=
  let c0_i32_440 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_439 : BitVec 32 := 8#32
  let v632 : BitVec 32 := Scalar.muli v2 c8_i32_439
  let v633 : BitVec 32 := Scalar.addi c0_i32_440 v632
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_441 : BitVec 32 := 4#32
  let v634 : BitVec 32 := Scalar.muli v41 c4_i32_441
  let v635 : BitVec 32 := Scalar.addi v633 v634
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_442 : BitVec 32 := 1#32
  let v636 : BitVec 32 := Scalar.muli v44 c1_i32_442
  let v637 : BitVec 32 := Scalar.addi v635 v636
  v637.toNat
def k0_dev22 (d0 : Dev nD) : Nat :=
  let c0_i32_456 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_455 : BitVec 32 := 8#32
  let v657 : BitVec 32 := Scalar.muli v9 c8_i32_455
  let v658 : BitVec 32 := Scalar.addi c0_i32_456 v657
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_457 : BitVec 32 := 4#32
  let v659 : BitVec 32 := Scalar.muli v5 c4_i32_457
  let v660 : BitVec 32 := Scalar.addi v658 v659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v661 : BitVec 32 := Scalar.muli v8 c1_i32_458
  let v662 : BitVec 32 := Scalar.addi v660 v661
  v662.toNat
def k0_dev23 (d0 : Dev nD) : Nat :=
  let c0_i32_499 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_498 : BitVec 32 := 8#32
  let v709 : BitVec 32 := Scalar.muli v2 c8_i32_498
  let v710 : BitVec 32 := Scalar.addi c0_i32_499 v709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_500 : BitVec 32 := 4#32
  let v711 : BitVec 32 := Scalar.muli v25 c4_i32_500
  let v712 : BitVec 32 := Scalar.addi v710 v711
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_501 : BitVec 32 := 1#32
  let v713 : BitVec 32 := Scalar.muli v28 c1_i32_501
  let v714 : BitVec 32 := Scalar.addi v712 v713
  v714.toNat
def k0_dev24 (d0 : Dev nD) : Nat :=
  let c0_i32_523 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_522 : BitVec 32 := 8#32
  let v744 : BitVec 32 := Scalar.muli v9 c8_i32_522
  let v745 : BitVec 32 := Scalar.addi c0_i32_523 v744
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_524 : BitVec 32 := 4#32
  let v746 : BitVec 32 := Scalar.muli v5 c4_i32_524
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_525 : BitVec 32 := 1#32
  let v748 : BitVec 32 := Scalar.muli v8 c1_i32_525
  let v749 : BitVec 32 := Scalar.addi v747 v748
  v749.toNat
def k0_dev25 (d0 : Dev nD) : Nat :=
  let c0_i32_556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_555 : BitVec 32 := 8#32
  let v790 : BitVec 32 := Scalar.muli v2 c8_i32_555
  let v791 : BitVec 32 := Scalar.addi c0_i32_556 v790
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_557 : BitVec 32 := 4#32
  let v792 : BitVec 32 := Scalar.muli v41 c4_i32_557
  let v793 : BitVec 32 := Scalar.addi v791 v792
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_558 : BitVec 32 := 1#32
  let v794 : BitVec 32 := Scalar.muli v44 c1_i32_558
  let v795 : BitVec 32 := Scalar.addi v793 v794
  v795.toNat
def k0_dev26 (d0 : Dev nD) : Nat :=
  let c0_i32_572 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_571 : BitVec 32 := 8#32
  let v815 : BitVec 32 := Scalar.muli v9 c8_i32_571
  let v816 : BitVec 32 := Scalar.addi c0_i32_572 v815
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_573 : BitVec 32 := 4#32
  let v817 : BitVec 32 := Scalar.muli v5 c4_i32_573
  let v818 : BitVec 32 := Scalar.addi v816 v817
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_574 : BitVec 32 := 1#32
  let v819 : BitVec 32 := Scalar.muli v8 c1_i32_574
  let v820 : BitVec 32 := Scalar.addi v818 v819
  v820.toNat
def k0_dev27 (d0 : Dev nD) : Nat :=
  let c0_i32_634 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_633 : BitVec 32 := 8#32
  let v884 : BitVec 32 := Scalar.muli v9 c8_i32_633
  let v885 : BitVec 32 := Scalar.addi c0_i32_634 v884
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_635 : BitVec 32 := 4#32
  let v886 : BitVec 32 := Scalar.muli v5 c4_i32_635
  let v887 : BitVec 32 := Scalar.addi v885 v886
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_636 : BitVec 32 := 1#32
  let v888 : BitVec 32 := Scalar.muli v8 c1_i32_636
  let v889 : BitVec 32 := Scalar.addi v887 v888
  v889.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
The mesh and the transfers of the kernel, as tables.

A device's number is c = 8 x + 4 y + z.  Within a plane (x fixed) the eight devices form a ring; `pos` is a device's
place on it.  `prt` is the device at the same place of the other plane, `fwd` and `bwd` the ring neighbours.

Every device issues 24 remote copies.  They are numbered by SLOTS: 0, 1 the two halves of the first exchange with the
partner; 2 + i the forward hops and 10 + i the backward hops, i = 2 (hop - 1) + half; 18 + j the later copies to the
partner.  Slots 9 and 16 have semaphores that no copy uses.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Planes

open Cert.KernelIdeal Cert.KernelIdeal.Gen
open Idealize.ShloMosaic Idealize.ShloMosaic.TcCoe

/-! ## Devices -/

/-- The plane of a device. -/
def plane (c : Dev nD) : ℕ := c.val / 8

/-- A device's place on the ring of its plane. -/
def pos (c : Dev nD) : ℕ := if (c.val / 4) % 2 = 0 then c.val % 4 else 7 - c.val % 4

/-- The device of plane `x` (0 or 1) at ring place `r` (below 8). -/
def devAt (x r : ℕ) : Dev nD := ⟨(8 * x + (if r < 4 then r else 4 + (7 - r))) % 16, Nat.mod_lt _ (by decide)⟩

/-- The device at the same place of the other plane. -/
def prt (c : Dev nD) : Dev nD := ⟨(c.val + 8) % 16, Nat.mod_lt _ (by decide)⟩
/-- The next device on the ring. -/
def fwd (c : Dev nD) : Dev nD := devAt (plane c) ((pos c + 1) % 8)
/-- The previous device on the ring. -/
def bwd (c : Dev nD) : Dev nD := devAt (plane c) ((pos c + 7) % 8)

/-- The partner's partner is the device itself. -/
theorem prt_prt (c : Dev nD) : prt (prt c) = c := by revert c; decide +kernel
/-- The next device of the previous one is the device itself. -/
theorem fwd_bwd (c : Dev nD) : fwd (bwd c) = c := by revert c; decide +kernel
/-- The previous device of the next one is the device itself. -/
theorem bwd_fwd (c : Dev nD) : bwd (fwd c) = c := by revert c; decide +kernel
/-- There are two planes. -/
theorem plane_lt (c : Dev nD) : plane c < 2 := by revert c; decide +kernel
/-- A ring has eight places. -/
theorem pos_lt (c : Dev nD) : pos c < 8 := by revert c; decide +kernel
/-- The partner lies in the other plane, -/
theorem plane_prt (c : Dev nD) : plane (prt c) = 1 - plane c := by revert c; decide +kernel
/-- at the same place. -/
theorem pos_prt (c : Dev nD) : pos (prt c) = pos c := by revert c; decide +kernel
/-- The next device lies in the same plane, -/
theorem plane_fwd (c : Dev nD) : plane (fwd c) = plane c := by revert c; decide +kernel
/-- and so does the previous one. -/
theorem plane_bwd (c : Dev nD) : plane (bwd c) = plane c := by revert c; decide +kernel
/-- A device is the one at its plane and place. -/
theorem devAt_plane_pos (c : Dev nD) : devAt (plane c) (pos c) = c := by revert c; decide +kernel
/-- The device at its place in the other plane is the partner. -/
theorem devAt_other_pos (c : Dev nD) : devAt (1 - plane c) (pos c) = prt c := by revert c; decide +kernel

/-! ## Slots -/

/-- The numbers of the copies (two are never used). -/
abbrev Sl : Type := Fin 26

/-- The slots a copy uses. -/
def used : Finset Sl := Finset.univ.filter fun a => a ≠ 9 ∧ a ≠ 16

/-- The three directions a copy goes: to the partner, forward, backward. -/
inductive Dir | p | f | b
  deriving DecidableEq

/-- There are three. -/
instance : Fintype Dir := ⟨{Dir.p, Dir.f, Dir.b}, fun d => by cases d <;> decide⟩

/-- The direction of a slot's copy. -/
def dirOf (a : Sl) : Dir := if a.val < 2 then .p else if a.val < 10 then .f else if a.val < 18 then .b else .p

/-- The neighbour in a direction, a permutation of the devices. -/
def nbr : Dir → Dev nD ≃ Dev nD
  | .p => ⟨prt, prt, prt_prt, prt_prt⟩
  | .f => ⟨fwd, bwd, bwd_fwd, fwd_bwd⟩
  | .b => ⟨bwd, fwd, fwd_bwd, bwd_fwd⟩

/-- The opposite direction. -/
def opp : Dir → Dir | .p => .p | .f => .b | .b => .f

/-- Going one way and then back is staying. -/
theorem nbr_opp (d : Dir) (c : Dev nD) : nbr d (nbr (opp d) c) = c := by
  cases d
  · exact prt_prt c
  · exact fwd_bwd c
  · exact bwd_fwd c
/-- The opposite direction's neighbour map is the inverse one. -/
theorem nbr_opp_eq (d : Dir) : nbr (opp d) = (nbr d).symm := by cases d <;> rfl
/-- Turning round twice is not turning. -/
theorem opp_opp (d : Dir) : opp (opp d) = d := by cases d <;> rfl

/-- The device a slot's copy goes to. -/
abbrev tgt (a : Sl) (c : Dev nD) : Dev nD := nbr (dirOf a) c

/-- The relative chunk (the chunk's number less the device's place, modulo 8) a slot's copy reads. -/
def srcE (a : Sl) : Fin 8 :=
  if a.val < 2 then 0
  else if a.val < 10 then Fin.ofNat 8 (8 - (a.val - 2) / 2)
  else if a.val < 18 then Fin.ofNat 8 ((a.val - 10) / 2)
  else if a.val = 19 then 7 else if a.val = 20 then 1 else if a.val = 21 then 6 else if a.val = 22 then 2
  else if a.val = 23 then 5 else if a.val = 24 then 3 else if a.val = 25 then 4 else 0
/-- The relative chunk, on the receiving device, a slot's copy lands in. -/
def dstE (a : Sl) : Fin 8 :=
  match dirOf a with
  | .p => srcE a
  | .f => srcE a + 7
  | .b => srcE a + 1
/-- The half a slot's copy moves (of the first exchange and of the hops). -/
def half (a : Sl) : Fin 2 := Fin.ofNat 2 a.val

/-- The place of a slot's copy in the order the copies are issued. -/
def ord (a : Sl) : ℕ :=
  (![0, 1, 2, 4, 7, 8, 13, 14, 19, 24, 3, 5, 10, 11, 16, 17, 25, 21, 6, 9, 12, 15, 18, 20, 22, 23] : Fin 26 → ℕ) a

/-! ## Rows -/

/-- First row of relative chunk `e` on device `c`. -/
def chunkLo (c : Dev nD) (e : Fin 8) : ℕ := 512 * ((pos c + e.val) % 8)
/-- First row of half `s` of the part of a chunk the plane of `c` computes. -/
def subLo (c : Dev nD) (e : Fin 8) (s : Fin 2) : ℕ := chunkLo c e + 176 * plane c + 168 * s.val
/-- First of the 176 rows of a chunk `c` sends its partner. -/
def xfLo (c : Dev nD) (e : Fin 8) : ℕ := chunkLo c e + 336 * plane c
/-- First of the 176 rows of a chunk `c` has from its partner. -/
def xrLo (c : Dev nD) (e : Fin 8) : ℕ := chunkLo c e + 336 * (1 - plane c)

/-- First row of the staged argument a first-exchange copy of `c` reads. -/
def p1Lo (c : Dev nD) (s : Fin 2) : ℕ := 512 * pos c + 176 * (1 - plane c) + 168 * s.val

/-- The first row of the result a slot's copy moves, the same on the device that sends and on the one that receives. -/
def srcLo (a : Sl) (c : Dev nD) : ℕ := if a.val < 18 then subLo c (srcE a) (half a) else xfLo c (srcE a)
/-- The first row a slot's copy lands in, on the device that receives. -/
def dstLo (a : Sl) (c : Dev nD) : ℕ := if a.val < 18 then subLo c (dstE a) (half a) else xrLo c (dstE a)

/-- A copy of the result lands in the rows it was read from. -/
theorem dstLo_tgt (a : Sl) (c : Dev nD) (h : 2 ≤ a.val) : dstLo a (tgt a c) = srcLo a c := by
  revert a c; decide +kernel

/-! ## The kernel's device numbers and offsets in closed form -/

/-- Device number 1 of the body is the partner. -/
theorem dev1 (c : Dev nD) : (⟨k0_dev1 c, k0_dev1_lt c⟩ : Dev nD) = nbr .p c := by revert c; decide +kernel
/-- Device number 2 of the body is the next device. -/
theorem dev2 (c : Dev nD) : (⟨k0_dev2 c, k0_dev2_lt c⟩ : Dev nD) = nbr .f c := by revert c; decide +kernel
/-- Device number 3 of the body is the previous device. -/
theorem dev3 (c : Dev nD) : (⟨k0_dev3 c, k0_dev3_lt c⟩ : Dev nD) = nbr .b c := by revert c; decide +kernel
/-- Device number 4 of the body is the target of copy 0. -/
theorem dev4 (c : Dev nD) : (⟨k0_dev4 c, k0_dev4_lt c⟩ : Dev nD) = tgt 0 c := by revert c; decide +kernel
/-- Device number 5 of the body is the target of copy 1. -/
theorem dev5 (c : Dev nD) : (⟨k0_dev5 c, k0_dev5_lt c⟩ : Dev nD) = tgt 1 c := by revert c; decide +kernel
/-- Device number 6 of the body is the target of copy 2. -/
theorem dev6 (c : Dev nD) : (⟨k0_dev6 c, k0_dev6_lt c⟩ : Dev nD) = tgt 2 c := by revert c; decide +kernel
/-- Device number 7 of the body is the target of copy 10. -/
theorem dev7 (c : Dev nD) : (⟨k0_dev7 c, k0_dev7_lt c⟩ : Dev nD) = tgt 10 c := by revert c; decide +kernel
/-- Device number 8 of the body is the target of copy 3. -/
theorem dev8 (c : Dev nD) : (⟨k0_dev8 c, k0_dev8_lt c⟩ : Dev nD) = tgt 3 c := by revert c; decide +kernel
/-- Device number 9 of the body is the target of copy 11. -/
theorem dev9 (c : Dev nD) : (⟨k0_dev9 c, k0_dev9_lt c⟩ : Dev nD) = tgt 11 c := by revert c; decide +kernel
/-- Device number 10 of the body is the target of copy 18. -/
theorem dev10 (c : Dev nD) : (⟨k0_dev10 c, k0_dev10_lt c⟩ : Dev nD) = tgt 18 c := by revert c; decide +kernel
/-- Device number 11 of the body is the target of copy 4. -/
theorem dev11 (c : Dev nD) : (⟨k0_dev11 c, k0_dev11_lt c⟩ : Dev nD) = tgt 4 c := by revert c; decide +kernel
/-- Device number 12 of the body is the target of copy 5. -/
theorem dev12 (c : Dev nD) : (⟨k0_dev12 c, k0_dev12_lt c⟩ : Dev nD) = tgt 5 c := by revert c; decide +kernel
/-- Device number 13 of the body is the target of copy 19. -/
theorem dev13 (c : Dev nD) : (⟨k0_dev13 c, k0_dev13_lt c⟩ : Dev nD) = tgt 19 c := by revert c; decide +kernel
/-- Device number 14 of the body is the target of copy 12. -/
theorem dev14 (c : Dev nD) : (⟨k0_dev14 c, k0_dev14_lt c⟩ : Dev nD) = tgt 12 c := by revert c; decide +kernel
/-- Device number 15 of the body is the target of copy 13. -/
theorem dev15 (c : Dev nD) : (⟨k0_dev15 c, k0_dev15_lt c⟩ : Dev nD) = tgt 13 c := by revert c; decide +kernel
/-- Device number 16 of the body is the target of copy 20. -/
theorem dev16 (c : Dev nD) : (⟨k0_dev16 c, k0_dev16_lt c⟩ : Dev nD) = tgt 20 c := by revert c; decide +kernel
/-- Device number 17 of the body is the target of copy 6. -/
theorem dev17 (c : Dev nD) : (⟨k0_dev17 c, k0_dev17_lt c⟩ : Dev nD) = tgt 6 c := by revert c; decide +kernel
/-- Device number 18 of the body is the target of copy 7. -/
theorem dev18 (c : Dev nD) : (⟨k0_dev18 c, k0_dev18_lt c⟩ : Dev nD) = tgt 7 c := by revert c; decide +kernel
/-- Device number 19 of the body is the target of copy 21. -/
theorem dev19 (c : Dev nD) : (⟨k0_dev19 c, k0_dev19_lt c⟩ : Dev nD) = tgt 21 c := by revert c; decide +kernel
/-- Device number 20 of the body is the target of copy 14. -/
theorem dev20 (c : Dev nD) : (⟨k0_dev20 c, k0_dev20_lt c⟩ : Dev nD) = tgt 14 c := by revert c; decide +kernel
/-- Device number 21 of the body is the target of copy 15. -/
theorem dev21 (c : Dev nD) : (⟨k0_dev21 c, k0_dev21_lt c⟩ : Dev nD) = tgt 15 c := by revert c; decide +kernel
/-- Device number 22 of the body is the target of copy 22. -/
theorem dev22 (c : Dev nD) : (⟨k0_dev22 c, k0_dev22_lt c⟩ : Dev nD) = tgt 22 c := by revert c; decide +kernel
/-- Device number 23 of the body is the target of copy 8. -/
theorem dev23 (c : Dev nD) : (⟨k0_dev23 c, k0_dev23_lt c⟩ : Dev nD) = tgt 8 c := by revert c; decide +kernel
/-- Device number 24 of the body is the target of copy 23. -/
theorem dev24 (c : Dev nD) : (⟨k0_dev24 c, k0_dev24_lt c⟩ : Dev nD) = tgt 23 c := by revert c; decide +kernel
/-- Device number 25 of the body is the target of copy 17. -/
theorem dev25 (c : Dev nD) : (⟨k0_dev25 c, k0_dev25_lt c⟩ : Dev nD) = tgt 17 c := by revert c; decide +kernel
/-- Device number 26 of the body is the target of copy 24. -/
theorem dev26 (c : Dev nD) : (⟨k0_dev26 c, k0_dev26_lt c⟩ : Dev nD) = tgt 24 c := by revert c; decide +kernel
/-- Device number 27 of the body is the target of copy 25. -/
theorem dev27 (c : Dev nD) : (⟨k0_dev27 c, k0_dev27_lt c⟩ : Dev nD) = tgt 25 c := by revert c; decide +kernel

/-- The rows the two first-exchange copies read. -/
theorem off1_0 (c : Dev nD) : k0_off1 c 0#32 = ![p1Lo c 0, 0] := by revert c; decide +kernel
/-- The rows the second first-exchange copy reads. -/
theorem off1_1 (c : Dev nD) : k0_off1 c 168#32 = ![p1Lo c 1, 0] := by revert c; decide +kernel
/-- The rows of the device's own chunk it computes. -/
theorem off2_0 (c : Dev nD) : k0_off2 c 0#32 = ![subLo c 0 0, 0] := by revert c; decide +kernel
/-- The rows of the second half of the own part. -/
theorem off2_1 (c : Dev nD) : k0_off2 c 168#32 = ![subLo c 0 1, 0] := by revert c; decide +kernel
/-- The rows of the hops, forward and backward. -/
theorem off3_2 (c : Dev nD) : k0_off3 c 0#32 0#32 = ![srcLo 2 c, 0] := by revert c; decide +kernel
/-- The rows copy 3 moves. -/
theorem off3_3 (c : Dev nD) : k0_off3 c 0#32 168#32 = ![srcLo 3 c, 0] := by revert c; decide +kernel
/-- The rows copy 4 moves. -/
theorem off3_4 (c : Dev nD) : k0_off3 c 4294967295#32 0#32 = ![srcLo 4 c, 0] := by revert c; decide +kernel
/-- The rows copy 5 moves. -/
theorem off3_5 (c : Dev nD) : k0_off3 c 4294967295#32 168#32 = ![srcLo 5 c, 0] := by revert c; decide +kernel
/-- The rows copy 6 moves. -/
theorem off3_6 (c : Dev nD) : k0_off3 c 4294967294#32 0#32 = ![srcLo 6 c, 0] := by revert c; decide +kernel
/-- The rows copy 7 moves. -/
theorem off3_7 (c : Dev nD) : k0_off3 c 4294967294#32 168#32 = ![srcLo 7 c, 0] := by revert c; decide +kernel
/-- The rows copy 8 moves. -/
theorem off3_8 (c : Dev nD) : k0_off3 c 4294967293#32 0#32 = ![srcLo 8 c, 0] := by revert c; decide +kernel
/-- The rows copy 10 moves. -/
theorem off3_10 (c : Dev nD) : k0_off3 c 0#32 0#32 = ![srcLo 10 c, 0] := by revert c; decide +kernel
/-- The rows copy 11 moves. -/
theorem off3_11 (c : Dev nD) : k0_off3 c 0#32 168#32 = ![srcLo 11 c, 0] := by revert c; decide +kernel
/-- The rows copy 12 moves. -/
theorem off3_12 (c : Dev nD) : k0_off3 c 1#32 0#32 = ![srcLo 12 c, 0] := by revert c; decide +kernel
/-- The rows copy 13 moves. -/
theorem off3_13 (c : Dev nD) : k0_off3 c 1#32 168#32 = ![srcLo 13 c, 0] := by revert c; decide +kernel
/-- The rows copy 14 moves. -/
theorem off3_14 (c : Dev nD) : k0_off3 c 2#32 0#32 = ![srcLo 14 c, 0] := by revert c; decide +kernel
/-- The rows copy 15 moves. -/
theorem off3_15 (c : Dev nD) : k0_off3 c 2#32 168#32 = ![srcLo 15 c, 0] := by revert c; decide +kernel
/-- The rows copy 17 moves. -/
theorem off3_17 (c : Dev nD) : k0_off3 c 3#32 168#32 = ![srcLo 17 c, 0] := by revert c; decide +kernel
/-- The rows of the later copies to the partner. -/
theorem off4_18 (c : Dev nD) : k0_off4 c = ![srcLo 18 c, 0] := by revert c; decide +kernel
/-- The rows copy 19 moves. -/
theorem off5_19 (c : Dev nD) : k0_off5 c 1#32 = ![srcLo 19 c, 0] := by revert c; decide +kernel
/-- The rows copy 21 moves. -/
theorem off5_21 (c : Dev nD) : k0_off5 c 2#32 = ![srcLo 21 c, 0] := by revert c; decide +kernel
/-- The rows copy 23 moves. -/
theorem off5_23 (c : Dev nD) : k0_off5 c 3#32 = ![srcLo 23 c, 0] := by revert c; decide +kernel
/-- The rows copy 20 moves. -/
theorem off6_20 (c : Dev nD) : k0_off6 c 1#32 = ![srcLo 20 c, 0] := by revert c; decide +kernel
/-- The rows copy 22 moves. -/
theorem off6_22 (c : Dev nD) : k0_off6 c 2#32 = ![srcLo 22 c, 0] := by revert c; decide +kernel
/-- The rows copy 24 moves. -/
theorem off6_24 (c : Dev nD) : k0_off6 c 3#32 = ![srcLo 24 c, 0] := by revert c; decide +kernel
/-- The rows copy 25 moves. -/
theorem off6_25 (c : Dev nD) : k0_off6 c 4#32 = ![srcLo 25 c, 0] := by revert c; decide +kernel

end Cert.Planes

end
-- ==== Proof.Sched.lean ====
/-
Contents, pieces and the schedule of the kernel's cells.

`res` is the final result on a device, one function of what the launch staged everywhere; every part of the result
buffer that has been computed or has landed holds `res` there.  A device's memory is cut into PIECES (`Pc`); what a
copy's source lends and what its landing yields are sets of pieces, so that the schedule, the body and the end of the
run speak of finite sets only.
-/
module

public import proofs.«01_k».proof.Proof.Mesh

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's copy and the kernel's (duties are directions) -/

/-- The ghost state of the protocol. -/
abbrev UB : Type := URounds (GSem nD τ sig) Dir
/-- The whole ghost state: the staging's and the protocol's. -/
abbrev UU : Type := UR sig nD τ × UB

local notation "𝕄" => MT nD τ sig Unit (Elt F) ℕ UU ℕ

/-- The staging's part. -/
abbrev EP : Emb (UR sig nD τ) (MT nD τ sig Unit (Elt F) ℕ UU ℕ) := embL
/-- The protocol's part. -/
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers and semaphores -/

/-- The staged argument. -/
abbrev xM : Memref sig .tc .vmem S4096x1024 .f32 := Memref.whole cc0_stg0_0
/-- The staged result. -/
abbrev oM : Memref sig .tc .vmem S4096x1024 .f32 := Memref.whole cc0_stg1_0
/-- The landing buffer of the first exchange. -/
abbrev pM : Memref sig .tc .vmem S336x1024 .f32 := Memref.whole cc0_scratch0

/-- The staged argument, the staged result and the landing buffer of the first exchange, on device `c`. -/
abbrev lx (c : Dev nD) : Loc nD τ sig := (c : Thread nD τ).loc cc0_stg0_0
/-- The staged result's location on a device. -/
abbrev lo (c : Dev nD) : Loc nD τ sig := (c : Thread nD τ).loc cc0_stg1_0
/-- The landing buffer's location on a device. -/
abbrev lp (c : Dev nD) : Loc nD τ sig := (c : Thread nD τ).loc cc0_scratch0

/-- The barrier semaphore. -/
abbrev barS : Sem sig := (SemArray.scalar (sig.barrier 0 rfl) : Sems sig S_).sem

/-- Number of a slot's send semaphore, and of its receive semaphore. -/
def sNo (a : Sl) : ℕ := if a.val < 2 then a.val + 2 else if a.val < 10 then a.val + 4 else if a.val < 18 then a.val + 12 else a.val + 20
/-- Number of a slot's receive semaphore. -/
def rNo (a : Sl) : ℕ := if a.val < 2 then a.val + 4 else if a.val < 10 then a.val + 12 else if a.val < 18 then a.val + 20 else a.val + 28
/-- Send semaphores' numbers are in range. -/
theorem sNo_lt (a : Sl) : sNo a < 54 := by revert a; decide +kernel
/-- Receive semaphores' numbers are in range. -/
theorem rNo_lt (a : Sl) : rNo a < 54 := by revert a; decide +kernel
/-- A slot's send semaphore and its receive semaphore. -/
def sS (a : Sl) : DmaSem sig := ⟨sNo a, sNo_lt a⟩
/-- A slot's receive semaphore. -/
def rS (a : Sl) : DmaSem sig := ⟨rNo a, rNo_lt a⟩

/-- The semaphores of the protocol: the barrier, a slot's send (`false`) and receive (`true`) semaphore. -/
abbrev CK : Type := Option (Sl × Bool)
/-- The semaphore itself. -/
def csem : CK → SemLoc sig
  | none => .reg barS
  | some (a, false) => .dma (sS a)
  | some (a, true) => .dma (rS a)
/-- Which one a DMA semaphore is. -/
def kindD (q : DmaSem sig) : Option (Sl × Bool) :=
  ((List.finRange 26).flatMap fun a => [(a, false), (a, true)]).find? fun k => if k.2 then rNo k.1 = q.val else sNo k.1 = q.val
/-- Which one of the protocol's a semaphore is, if any. -/
def kind : SemLoc sig → Option CK
  | .reg s => if s = barS then some none else none
  | .dma q => (kindD q).map some
/-- A send semaphore is found as itself. -/
theorem kindD_s (a : Sl) : kindD (sS a) = some (a, false) := by revert a; decide +kernel
/-- A receive semaphore is found as itself. -/
theorem kindD_r (a : Sl) : kindD (rS a) = some (a, true) := by revert a; decide +kernel
/-- Each semaphore of the protocol is found as itself. -/
theorem kind_csem (k : CK) : kind (csem k) = some k := by
  rcases k with _ | ⟨a, _ | _⟩
  · rfl
  · exact congrArg (Option.map some) (kindD_s a)
  · exact congrArg (Option.map some) (kindD_r a)
/-- They are distinct. -/
theorem csem_injective : Function.Injective csem := fun k k' h =>
  Option.some_injective _ ((kind_csem k).symm.trans ((congrArg kind h).trans (kind_csem k')))

/-- A semaphore of the protocol on a device. -/
abbrev cell (c : Dev nD) (k : CK) : GSem nD τ sig := ((c : Thread nD τ), csem k)
/-- A device's barrier semaphore. -/
abbrev barCell (c : Dev nD) : GSem nD τ sig := cell c none
/-- A slot's send semaphore on a device. -/
abbrev sendCell (a : Sl) (c : Dev nD) : GSem nD τ sig := cell c (some (a, false))
/-- A slot's receive semaphore on a device. -/
abbrev recvCell (a : Sl) (c : Dev nD) : GSem nD τ sig := cell c (some (a, true))

/-- All of them, over all devices, are distinct. -/
theorem cell_injective : Function.Injective fun ck : Dev nD × CK => cell ck.1 ck.2 := by
  rintro ⟨c, k⟩ ⟨c', k'⟩ h
  have h1 : c = c' := congrArg (fun g : GSem nD τ sig => g.1.1) h
  have h2 : k = k' := csem_injective (congrArg Prod.snd h)
  rw [h1, h2]

/-! ## Contents -/

/-- What the launch stages on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The rows of a chunk the plane `x` computes. -/
abbrev Mine (x : ℕ) (i : S4096x1024.Idx) : Prop := 176 * x ≤ (i 0 : ℕ) % 512 ∧ (i 0 : ℕ) % 512 < 176 * x + 336

/-- The staged argument of plane `x`, each row read on the device whose chunk it lies in. -/
def plX (x : ℕ) : FVec F S4096x1024 .f32 := fun i => xstg m ρ (devAt x ((i 0 : ℕ) / 512)) i

/-- The final result on device `c`: rows its own plane computes are own plane plus other plane, the rest the other way
    round. -/
def res (c : Dev nD) : FVec F S4096x1024 .f32 := fun i =>
  if Mine (plane c) i then addf (plX m ρ (plane c)) (plX m ρ (1 - plane c)) i
  else addf (plX m ρ (1 - plane c)) (plX m ρ (plane c)) i

/-- The rows the first exchange fills in the landing buffer stand for rows of the array. -/
theorem sub_inb (c : Dev nD) : ∀ a, (![subLo c 0 0, 0] : Fin 2 → ℕ) a + S336x1024.size a ≤ S4096x1024.size a := by
  revert c; decide +kernel
/-- What the first exchange lands on `c`: the partner's rows of the part of `c`'s chunk that `c`'s plane computes. -/
def got (c : Dev nD) : FVec F S336x1024 .f32 := fun j =>
  xstg m ρ (prt c) ((Rect.unit (s := S4096x1024) ![subLo c 0 0, 0] S336x1024.size (sub_inb c)).emb j)

/-! ## Row sets -/

/-- The elements of `n` rows from `lo`: of the result (or argument), and of the landing buffer. -/
def rows (lo n : ℕ) : Finset S4096x1024.Idx := Finset.univ.filter fun i => lo ≤ (i 0 : ℕ) ∧ (i 0 : ℕ) < lo + n
/-- The elements of `n` rows of the landing buffer from `lo`. -/
def prows (lo n : ℕ) : Finset S336x1024.Idx := Finset.univ.filter fun i => lo ≤ (i 0 : ℕ) ∧ (i 0 : ℕ) < lo + n

/-- Membership in a set of rows. -/
theorem mem_rows {lo n : ℕ} {i : S4096x1024.Idx} : i ∈ rows lo n ↔ lo ≤ (i 0 : ℕ) ∧ (i 0 : ℕ) < lo + n := by simp [rows]
/-- Membership in a set of rows of the landing buffer. -/
theorem mem_prows {lo n : ℕ} {i : S336x1024.Idx} : i ∈ prows lo n ↔ lo ≤ (i 0 : ℕ) ∧ (i 0 : ℕ) < lo + n := by simp [prows]

/-- Half parts of a chunk lie inside the array. -/
theorem sub_rows (c : Dev nD) (e : Fin 8) (s : Fin 2) : subLo c e s + 168 ≤ 4096 := by revert c e s; decide +kernel
/-- The rows exchanged with the partner lie inside the array. -/
theorem xf_rows (c : Dev nD) (e : Fin 8) : xfLo c e + 176 ≤ 4096 := by revert c e; decide +kernel

/-! ## Pieces -/

/-- The pieces a device's memory is handled in: `o e s k` is half `s` of the own part of relative chunk `e` of the result
    (k = 0, 1: the two quarter shares the forward and the backward hop lend; k = 2, 3: the other half share, on the rows
    the partner is sent and off them), `xr e` the partner's part of chunk `e`, `xs s` the argument's rows the first
    exchange lends, `pb s` its landed half, `w s` the own part of the own chunk before it is computed. -/
inductive Pc
  | o (e : Fin 8) (s : Fin 2) (k : Fin 4) | xr (e : Fin 8) | xs (s : Fin 2) | pb (s : Fin 2) | w (s : Fin 2)
  deriving DecidableEq

/-- The rows of `o e s k`. -/
def oRows (c : Dev nD) (e : Fin 8) (s : Fin 2) (k : Fin 4) : Finset S4096x1024.Idx :=
  if k = 2 then rows (subLo c e s) 168 ∩ rows (xfLo c e) 176
  else if k = 3 then rows (subLo c e s) 168 \ rows (xfLo c e) 176
  else rows (subLo c e s) 168

/-- The share of `o e s k`. -/
def oShare (k : Fin 4) : PosShare TreeShare :=
  if k = 0 then fullShare.left.left else if k = 1 then fullShare.left.right else fullShare.right

/-- A piece as an assertion. -/
def piece (c : Dev nD) : Pc → sProp 𝕄
  | .o e s k => lo c ↦[oRows c e s k]{oShare k} res m ρ c
  | .xr e => lo c ↦[rows (xrLo c e) 176]{fullShare} res m ρ c
  | .xs s => lx c ↦[rows (p1Lo c s) 168]{fullShare.left} xstg m ρ c
  | .pb s => lp c ↦[prows (168 * s.val) 168]{fullShare} got m ρ c
  | .w s => iprop(∃ f : Buf (Elt F) (lo c), lo c ↦[rows (subLo c 0 s) 168]{fullShare} f)

/-- It can be kept in an invariant. -/
instance piece_storable (c : Dev nD) (p : Pc) : BI.Storable (upEmb : UEmb _ 𝕄) (piece (F := F) m ρ c p) := by
  cases p <;> (unfold piece; infer_instance)

/-- A set of pieces. -/
def pieces (c : Dev nD) (P : Finset Pc) : sProp 𝕄 := bigSep P (piece m ρ c)

/-- It can be kept in an invariant. -/
instance pieces_storable (c : Dev nD) (P : Finset Pc) : BI.Storable (upEmb : UEmb _ 𝕄) (pieces (F := F) m ρ c P) := by
  unfold pieces; infer_instance

/-- The pieces a slot's copy lends on the device that issues it. -/
def srcP (a : Sl) : Finset Pc :=
  if a.val < 2 then {.xs (half a)}
  else if a.val < 10 then {.o (srcE a) (half a) 0}
  else if a.val < 18 then {.o (srcE a) (half a) 1}
  else {.o (srcE a) 0 2, .o (srcE a) 1 2}
/-- The four pieces of a computed or landed half. -/
def subP (e : Fin 8) (s : Fin 2) : Finset Pc := {.o e s 0, .o e s 1, .o e s 2, .o e s 3}
/-- The pieces a slot's copy yields on the device it lands on. -/
def dstP (a : Sl) : Finset Pc :=
  if a.val < 2 then {.pb (half a)} else if a.val < 18 then subP (dstE a) (half a) else {.xr (dstE a)}

/-- The elements a slot's copy overwrites on device `c`, at any contents. -/
def junk (a : Sl) (c : Dev nD) : sProp 𝕄 :=
  if a.val < 2 then iprop(∃ f : Buf (Elt F) (lp c), lp c ↦[prows (168 * (half a).val) 168]{fullShare} f)
  else iprop(∃ f : Buf (Elt F) (lo c), lo c ↦[rows (dstLo a c) (if a.val < 18 then 168 else 176)]{fullShare} f)

/-- It can be kept in an invariant. -/
instance junk_storable (a : Sl) (c : Dev nD) : BI.Storable (upEmb : UEmb _ 𝕄) (junk (F := F) a c) := by
  unfold junk; split <;> infer_instance

/-! ## The schedule -/

/-- The slots whose copies go in direction `d`. -/
def slotsOf (d : Dir) : Finset Sl := used.filter fun a => dirOf a = d

/-- What the signal in direction `d` hands the device it reaches: everything that device's copies back overwrite. -/
def barPay (d : Dir) (c : Dev nD) : sProp 𝕄 := bigSep (slotsOf (opp d)) fun a => junk (F := F) a (tgt a c)

/-- The credit of a slot's copy. -/
def amt (a : Sl) : ℕ :=
  if a.val < 2 then (pM.slice (Rect.unit (s := S336x1024) ![0, 0] S168x1024.size inb_S336x1024_S168x1024_0_0) (fun _ => rfl)).view.dmaCredit
  else if a.val < 18 then (oM.slice (Rect.unit (s := S4096x1024) (k0_off2 0 0#32) S168x1024.size (k0_off2_inb 0 0)) (fun _ => rfl)).view.dmaCredit
  else (oM.slice (Rect.unit (s := S4096x1024) (k0_off4 0) S176x1024.size (k0_off4_inb 0)) (fun _ => rfl)).view.dmaCredit
/-- A copy credits a positive amount. -/
theorem amt_pos (a : Sl) : 0 < amt a := by
  unfold amt
  split
  · exact View.dmaCredit_pos _ (by decide)
  · split <;> exact View.dmaCredit_pos _ (by decide)

/-- One round: the barrier cell has a duty of one unit per direction, a used slot's cells one duty of the copy's credit. -/
def rd : Rounds.Schedule (GSem nD τ sig) Dir 𝕄 where
  duties g r := if r = 0 ∧ g.1.2 = .tc then
      (match kind g.2 with
        | some none => Finset.univ
        | some (some (a, _)) => if a ∈ used then {Dir.p} else ∅
        | none => ∅)
    else ∅
  unitless _ := False
  amount g _ _ := match kind g.2 with
    | some (some (a, _)) => amt a
    | _ => 1
  payload g _ d := match kind g.2 with
    | some none => barPay d g.1.1
    | some (some (a, false)) => pieces m ρ g.1.1 (srcP a)
    | some (some (a, true)) => pieces m ρ g.1.1 (dstP a)
    | none => iprop(emp)
  amount_pos g _ _ _ := by
    split
    · exact amt_pos _
    · exact Nat.one_pos

/-- It can be kept in an invariant. -/
instance rd_payload_storable (g : GSem nD τ sig) (r : ℕ) (d : Dir) :
    BI.Storable (upEmb : UEmb _ 𝕄) ((rd (F := F) m ρ).payload g r d) := by
  dsimp only [rd]
  split <;> (try unfold barPay) <;> infer_instance

omit [FloatOps F] in
/-- Nothing is taken away from the duties by subtracting nothing. -/
theorem used_cases (a : Sl) : (if a ∈ used then ({Dir.p} : Finset Dir) else ∅) \ ∅ = if a ∈ used then {Dir.p} else ∅ := Finset.sdiff_empty

section Sched
variable (c : Dev nD) (a : Sl)

/-- The barrier is owed by the three neighbours. -/
theorem duties_bar : (rd (F := F) m ρ).duties (barCell c) 0 = Finset.univ := by
  dsimp only [rd]; rw [if_pos ⟨rfl, rfl⟩, kind_csem]
/-- A slot's semaphores are owed one payment if the slot is used. -/
theorem duties_slot (b : Bool) : (rd (F := F) m ρ).duties (cell c (some (a, b))) 0 = if a ∈ used then {Dir.p} else ∅ := by
  dsimp only [rd]; rw [if_pos ⟨rfl, rfl⟩, kind_csem]
/-- Nothing is owed after the first round. -/
theorem duties_later (g : GSem nD τ sig) : ∀ r, 1 ≤ r → (rd (F := F) m ρ).duties g r = ∅ :=
  fun r hr => by dsimp only [rd]; exact if_neg fun h => by omega
/-- Nothing is owed on an unused slot. -/
theorem duties_unused (b : Bool) (h : a ∉ used) : ∀ r, 0 ≤ r → (rd (F := F) m ρ).duties (cell c (some (a, b))) r = ∅ := fun r _ => by
  rcases Nat.eq_zero_or_pos r with rfl | hr
  · rw [duties_slot, if_neg h]
  · exact duties_later m ρ _ r hr
/-- Each neighbour pays the barrier one unit. -/
theorem amount_bar (d : Dir) : (rd (F := F) m ρ).amount (barCell c) 0 d = 1 := by
  dsimp only [rd]; rw [kind_csem]
/-- A copy pays its semaphore the copy's amount. -/
theorem amount_slot (b : Bool) (d : Dir) : (rd (F := F) m ρ).amount (cell c (some (a, b))) 0 d = amt a := by
  dsimp only [rd]; rw [kind_csem]
/-- The barrier awaits three units. -/
theorem expect_bar : (rd (F := F) m ρ).expect (barCell c) 0 = 3 := by
  unfold Schedule.expect Schedule.amountOf
  rw [duties_bar, Finset.sum_congr rfl fun d _ => amount_bar m ρ c d]; rfl
/-- A used slot's semaphore awaits its copy's amount. -/
theorem expect_slot (b : Bool) (h : a ∈ used) : (rd (F := F) m ρ).expect (cell c (some (a, b))) 0 = amt a := by
  unfold Schedule.expect Schedule.amountOf; rw [duties_slot, if_pos h, Finset.sum_singleton, amount_slot]
/-- What a neighbour's signal carries. -/
theorem payload_bar (d : Dir) : (rd (F := F) m ρ).payload (barCell c) 0 d = barPay d c := by
  dsimp only [rd]; rw [kind_csem]
/-- A send semaphore hands back what the copy read. -/
theorem payload_send (d : Dir) : (rd (F := F) m ρ).payload (sendCell a c) 0 d = pieces m ρ c (srcP a) := by
  dsimp only [rd]; rw [kind_csem]
/-- A receive semaphore hands over what the copy landed. -/
theorem payload_recv (d : Dir) : (rd (F := F) m ρ).payload (recvCell a c) 0 d = pieces m ρ c (dstP a) := by
  dsimp only [rd]; rw [kind_csem]

/-- What the whole round of a used slot's cell pays. -/
theorem rest_slot (b : Bool) (h : a ∈ used) (R : sProp 𝕄) (hR : (rd (F := F) m ρ).payload (cell c (some (a, b))) 0 .p = R) :
    bigSep ((rd (F := F) m ρ).duties (cell c (some (a, b))) 0 \ ∅) (fun d => (rd (F := F) m ρ).payload (cell c (some (a, b))) 0 d) = R := by
  rw [Finset.sdiff_empty, duties_slot, if_pos h, bigSep_singleton, hR]

omit [FloatOps F] in
/-- A conjunction over the directions, written out. -/
theorem bigSep_dir (Φ : Dir → sProp 𝕄) : bigSep Finset.univ Φ = iprop(Φ .p ∗ Φ .f ∗ Φ .b) :=
  bigSep_univ_eq_bigSepL [Dir.p, Dir.f, Dir.b] (by decide) (by decide) Φ

/-- The used slots by direction. -/
theorem slots_used : used = slotsOf .p ∪ (slotsOf .b ∪ slotsOf .f) := by decide +kernel

/-- What the whole round of the barrier cell pays: all that the device's own copies overwrite. -/
theorem rest_bar : bigSep ((rd (F := F) m ρ).duties (barCell c) 0 \ ∅) (fun d => (rd (F := F) m ρ).payload (barCell c) 0 d)
    = bigSep used fun a => junk (F := F) a (tgt a c) := by
  rw [Finset.sdiff_empty, duties_bar, bigSep_dir, payload_bar, payload_bar, payload_bar, slots_used,
    bigSep_union (by decide +kernel), bigSep_union (by decide +kernel)]
  rfl

end Sched

/-! ## What a device owes at launch; the levels -/

/-- The credit owed for the slots in `S`: one copy each, to the neighbour's receive cell. -/
def owedS (c : Dev nD) (S : Finset Sl) : CellTallies nD τ sig Unit := ∑ a ∈ S, tallyAt (recvCell a (tgt a c)) () (amt a)
/-- A unit owed to the neighbour's barrier cell. -/
def owedB (c : Dev nD) (d : Dir) : CellTallies nD τ sig Unit := tallyAt (barCell (nbr d c)) () 1
/-- All a device owes: its copies and its three signals, the signals summed in the order that peels them. -/
def O₀ (c : Dev nD) : CellTallies nD τ sig Unit := owedS c used + owedB c .b + owedB c .f + owedB c .p

/-- The levels' index: one per semaphore of a core. -/
def L (g : GSem nD τ sig) : Finset Unit := if g.1.2 = .tc then {()} else ∅
/-- Barrier cells at 1, a slot's receive cell above by its place in the order of issue, everything else at 0. -/
def lv (g : GSem nD τ sig) (_ : Unit) : ℕ := match kind g.2 with
  | some none => 1
  | some (some (a, true)) => ord a + 2
  | _ => 0

/-- Other threads have none. -/
theorem L_of_ne (g : GSem nD τ sig) (h : g.1.2 ≠ .tc) : L g = ∅ := if_neg h
/-- A core's semaphore has one. -/
theorem L_tc (c : Dev nD) (sm : SemLoc sig) : L ((c : Thread nD τ), sm) = {()} := if_pos rfl
/-- The barrier's level. -/
theorem lv_bar (c : Dev nD) (u : Unit) : lv (barCell c) u = 1 := by unfold lv; rw [kind_csem]
/-- A send semaphore's level. -/
theorem lv_send (a : Sl) (c : Dev nD) (u : Unit) : lv (sendCell a c) u = 0 := by unfold lv; rw [kind_csem]
/-- A receive semaphore's level. -/
theorem lv_recv (a : Sl) (c : Dev nD) (u : Unit) : lv (recvCell a c) u = ord a + 2 := by unfold lv; rw [kind_csem]

/-- What is owed for copies is owed to a receive semaphore of one of them. -/
theorem owedS_pos {c : Dev nD} {S : Finset Sl} {g : GSem nD τ sig} {u : Unit} (h : 0 < owedS c S g u) :
    ∃ a ∈ S, g = recvCell a (tgt a c) := by
  unfold owedS at h
  rw [Finset.sum_apply, Finsupp.finset_sum_apply] at h
  obtain ⟨a, ha, h⟩ := Finset.exists_ne_zero_of_sum_ne_zero h.ne'
  refine ⟨a, ha, ?_⟩
  rw [tallyAt_apply] at h
  by_contra hn
  rw [if_neg fun h' => hn h'.1] at h
  exact h rfl

/-- What is owed for a signal is owed to that neighbour's barrier. -/
theorem owedB_pos {c : Dev nD} {d : Dir} {g : GSem nD τ sig} {u : Unit} (h : 0 < owedB c d g u) : g = barCell (nbr d c) := by
  unfold owedB at h
  rw [tallyAt_apply] at h
  by_contra hn
  rw [if_neg fun h' => hn h'.1] at h
  exact Nat.lt_irrefl 0 h

/-- Everything owed at launch is owed to a barrier or a receive semaphore. -/
theorem O₀_pos {c : Dev nD} {g : GSem nD τ sig} {u : Unit} (h : 0 < O₀ c g u) :
    (∃ a, g = recvCell a (tgt a c)) ∨ ∃ d, g = barCell (nbr d c) := by
  unfold O₀ at h
  simp only [Pi.add_apply, Finsupp.add_apply] at h
  by_cases h1 : 0 < owedS c used g u
  · obtain ⟨a, _, h⟩ := owedS_pos h1; exact .inl ⟨a, h⟩
  by_cases h2 : 0 < owedB c .b g u
  · exact .inr ⟨_, owedB_pos h2⟩
  by_cases h3 : 0 < owedB c .f g u
  · exact .inr ⟨_, owedB_pos h3⟩
  · exact .inr ⟨.p, owedB_pos (Nat.pos_of_ne_zero fun h4 => by rw [h4] at h; omega)⟩

omit [FloatOps F] in
/-- A wait on a cell below every cell still owed. -/
theorem mayWait_owedS (c : Dev nD) (k : CK) (n : ℕ) (hk : lv (cell c k) () ≤ n) (S : Finset Sl) (hS : ∀ b ∈ S, n < ord b + 2) :
    (levAts L lv : sProp 𝕄) ⊢ MayWait (c : Thread nD τ) (csem k) () (owedS c S) :=
  MayOwe.of_cut (L := L) (lev := lv) n (fun p hp => by rw [Finset.mem_singleton.mp hp, L_tc]; exact Finset.mem_singleton_self _)
    (fun g u hg => by obtain ⟨b, _, rfl⟩ := owedS_pos hg; exact Finset.mem_singleton_self _)
    (fun p hp => by rw [Finset.mem_singleton.mp hp]; exact hk)
    (fun g u hg => by obtain ⟨b, hb, rfl⟩ := owedS_pos hg; rw [lv_recv]; exact hS b hb)

/-- A staging semaphore is none of the protocol's. -/
theorem mayWait_stage (c : Dev nD) (q : DmaSem sig) (hq : kindD q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨d, rfl⟩ <;> exact Finset.mem_singleton_self _)
      (fun p hp => by rw [Finset.mem_singleton.mp hp]; exact (by unfold lv; simp only [kind, hq]; exact Nat.le_refl 0 : lv ((c : Thread nD τ), .dma q) () ≤ 0))
      (fun g u hg => by
        rcases O₀_pos hg with ⟨a, rfl⟩ | ⟨d, rfl⟩
        · rw [lv_recv]; exact Nat.succ_pos _
        · rw [lv_bar]; exact Nat.one_pos)
  · rw [MayWait_zero]; iintro -; iempintro

end Cert.Planes

end
-- ==== Proof.Regions.lean ====
/-
The memory a slot's copy reads and the memory it writes, as pieces: the views the program builds have the row sets of
the tables, and a copy turns what was there into the final result.
-/
module

public import proofs.«01_k».proof.Proof.Sched

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Row sets of the program's rectangles -/

/-- A rectangle of whole rows of the result. -/
theorem rect_rows {off : Fin 2 → ℕ} {lo n : ℕ} (h : off = ![lo, 0])
    (inb : ∀ a, off a + (![n, 1024] : Fin 2 → ℕ) a ≤ S4096x1024.size a) :
    (Rect.unit (s := S4096x1024) off ![n, 1024] inb).set = rows lo n := by
  subst h
  ext i
  rw [Rect.mem_set_unit, mem_rows]
  constructor
  · intro h; exact h 0
  · intro h a
    fin_cases a
    · exact h
    · exact ⟨Nat.zero_le _, by have := (i 1).isLt; simpa using this⟩

/-- A rectangle of whole rows of the landing buffer. -/
theorem rect_prows {off : Fin 2 → ℕ} {lo n : ℕ} (h : off = ![lo, 0])
    (inb : ∀ a, off a + (![n, 1024] : Fin 2 → ℕ) a ≤ S336x1024.size a) :
    (Rect.unit (s := S336x1024) off ![n, 1024] inb).set = prows lo n := by
  subst h
  ext i
  rw [Rect.mem_set_unit, mem_prows]
  constructor
  · intro h; exact h 0
  · intro h a
    fin_cases a
    · exact h
    · exact ⟨Nat.zero_le _, by have := (i 1).isLt; simpa using this⟩

/-! ## Facts of arithmetic about the rows -/

/-- A chunk lies inside the array. -/
theorem chunkLo_le (c : Dev nD) (e : Fin 8) : chunkLo c e ≤ 3584 := by revert c e; decide +kernel

/-- The 176 rows sent to the partner lie in the two halves. -/
theorem xf_parts (c : Dev nD) (e : Fin 8) : oRows c e 0 2 ∪ oRows c e 1 2 = rows (xfLo c e) 176 := by
  ext i
  have hp := plane_lt c
  simp only [oRows, if_true, Finset.mem_union, Finset.mem_inter, mem_rows, subLo, xfLo, Fin.val_zero, Fin.val_one]
  omega

/-- The two halves of the rows sent to the partner are apart. -/
theorem xf_disjoint (c : Dev nD) (e : Fin 8) : Disjoint (oRows c e 0 2) (oRows c e 1 2) := by
  refine Finset.disjoint_left.mpr fun i h1 h2 => ?_
  simp only [oRows, if_true, Finset.mem_inter, mem_rows, subLo, Fin.val_zero, Fin.val_one] at h1 h2
  omega

/-! ## Pieces of a half -/

/-- A share of some elements is its two halves. -/
theorem halves (ℓ : Loc nD τ sig) (I : Finset (Idx ℓ)) (q : PosShare TreeShare) (f : Buf (Elt F) ℓ) :
    (ℓ ↦[I]{q} f : sProp 𝕄) = iprop((ℓ ↦[I]{q.left} f) ∗ ℓ ↦[I]{q.right} f) :=
  have h := pointsTo_share (Ix := Unit) (Val := Elt F) (Name := ℕ) (U := UU) (Lvl := ℕ) (ℓ := ℓ) (I := I) (f := f)
    (PosShare.mem_left_op_right q)
  BI.equiv_iff.mp ⟨h.1, h.2⟩

/-- Elements in two disjoint parts. -/
theorem two_parts (ℓ : Loc nD τ sig) {I J S : Finset (Idx ℓ)} (hd : Disjoint I J) (hu : I ∪ J = S) (q : PosShare TreeShare) (f : Buf (Elt F) ℓ) :
    (ℓ ↦[S]{q} f : sProp 𝕄) = iprop((ℓ ↦[I]{q} f) ∗ ℓ ↦[J]{q} f) := by
  subst hu
  have h := pointsTo_union (Ix := Unit) (Val := Elt F) (Name := ℕ) (U := UU) (Lvl := ℕ) (ℓ := ℓ) (q := q) (f := f) hd
  exact BI.equiv_iff.mp ⟨h.1, h.2⟩

/-- A half held in full is its four pieces. -/
theorem subP_eq (c : Dev nD) (e : Fin 8) (s : Fin 2) :
    pieces m ρ c (subP e s) = (lo c ↦[rows (subLo c e s) 168]{fullShare} res m ρ c : sProp 𝕄) := by
  unfold pieces subP
  rw [bigSep_insert (by simp), bigSep_insert (by simp), bigSep_insert (by simp), bigSep_singleton,
    halves (lo c) _ fullShare, halves (lo c) _ fullShare.left,
    two_parts (lo c) (Finset.disjoint_sdiff_inter _ _).symm
      ((Finset.union_comm _ _).trans (Finset.sdiff_union_inter (rows (subLo c e s) 168) (rows (xfLo c e) 176))) fullShare.right]
  change _ = iprop((piece m ρ c (.o e s 0) ∗ piece m ρ c (.o e s 1)) ∗ (piece m ρ c (.o e s 2) ∗ piece m ρ c (.o e s 3)))
  exact (BI.equiv_iff.mp ⟨BI.sep_assoc, (sep_assoc (PROP := sProp 𝕄)).2⟩).symm

/-! ## The pieces a copy reads -/

/-- Rows a copy of the result moves, and the share it lends. -/
def len (a : Sl) : ℕ := if a.val < 18 then 168 else 176
/-- The share of the rows a copy of the result lends. -/
def shr (a : Sl) : PosShare TreeShare := if a.val < 10 then fullShare.left.left else if a.val < 18 then fullShare.left.right else fullShare.right

/-- What a first-exchange copy reads, as one assertion. -/
theorem src_p1 (c : Dev nD) (a : Sl) (h : a.val < 2) :
    pieces m ρ c (srcP a) = (lx c ↦[rows (p1Lo c (half a)) 168]{fullShare.left} xstg m ρ c : sProp 𝕄) := by
  unfold pieces srcP
  rw [if_pos h, bigSep_singleton]; rfl

/-- What a copy of the result reads, as one assertion. -/
theorem src_out (c : Dev nD) (a : Sl) (h : 2 ≤ a.val) :
    pieces m ρ c (srcP a) = (lo c ↦[rows (srcLo a c) (len a)]{shr a} res m ρ c : sProp 𝕄) := by
  unfold pieces srcP srcLo len shr
  rw [if_neg (by omega)]
  by_cases h1 : a.val < 10
  · rw [if_pos h1, if_pos h1, if_pos (by omega), if_pos (by omega), bigSep_singleton]; rfl
  · rw [if_neg h1, if_neg h1]
    by_cases h2 : a.val < 18
    · rw [if_pos h2, if_pos h2, if_pos h2, if_pos h2, bigSep_singleton]; rfl
    · rw [if_neg h2, if_neg h2, if_neg h2, if_neg h2, bigSep_insert (by simp), bigSep_singleton,
        two_parts (lo c) (xf_disjoint c (srcE a)) (xf_parts c (srcE a))]
      rfl

/-! ## The pieces a copy yields -/

/-- What a first-exchange copy yields. -/
theorem dst_p1 (c : Dev nD) (a : Sl) (h : a.val < 2) :
    pieces m ρ c (dstP a) = (lp c ↦[prows (168 * (half a).val) 168]{fullShare} got m ρ c : sProp 𝕄) := by
  unfold pieces dstP
  rw [if_pos h, bigSep_singleton]; rfl

/-- What a copy of the result yields. -/
theorem dst_out (c : Dev nD) (a : Sl) (h : 2 ≤ a.val) :
    pieces m ρ c (dstP a) = (lo c ↦[rows (dstLo a c) (len a)]{fullShare} res m ρ c : sProp 𝕄) := by
  unfold dstP dstLo len
  rw [if_neg (by omega)]
  by_cases h2 : a.val < 18
  · rw [if_pos h2, if_pos h2, if_pos h2, subP_eq]
  · rw [if_neg h2, if_neg h2, if_neg h2]
    unfold pieces
    rw [bigSep_singleton]; rfl

/-- What a first-exchange copy overwrites. -/
theorem junk_p1 (c : Dev nD) (a : Sl) (h : a.val < 2) :
    junk (F := F) a c = iprop(∃ f : Buf (Elt F) (lp c), lp c ↦[prows (168 * (half a).val) 168]{fullShare} f) := by
  unfold junk; rw [if_pos h]

/-- What a copy of the result overwrites. -/
theorem junk_out (c : Dev nD) (a : Sl) (h : 2 ≤ a.val) :
    junk (F := F) a c = iprop(∃ f : Buf (Elt F) (lo c), lo c ↦[rows (dstLo a c) (len a)]{fullShare} f) := by
  unfold junk; rw [if_neg (by omega)]; rfl

/-! ## Contents that move -/

/-- A first-exchange copy reads what `got` says lands. -/
theorem p1Lo_eq (c : Dev nD) (s : Fin 2) : subLo (prt c) 0 0 + 168 * s.val = p1Lo c s := by revert c s; decide +kernel

/-- On the rows a copy of the result moves, sender and receiver want the same: within a plane because the result depends
    on the plane only, -/
theorem res_plane {c d : Dev nD} (h : plane d = plane c) : res m ρ d = res m ρ c := by unfold res; rw [h]

/-- and across the planes because the rows are the sender's own. -/
theorem res_prt (c : Dev nD) {i : S4096x1024.Idx} (h : Mine (plane c) i) (h' : ¬ Mine (1 - plane c) i) : res m ρ (prt c) i = res m ρ c i := by
  have hp := plane_lt c
  unfold res
  rw [plane_prt, if_neg h', if_pos h, show 1 - (1 - plane c) = plane c by omega]

/-- So the rows a copy moves hold the same result on both devices. -/
theorem res_tgt (a : Sl) (c : Dev nD) (h : 2 ≤ a.val) : ∀ i ∈ rows (srcLo a c) (len a), res m ρ c i = res m ρ (tgt a c) i := by
  intro i hi
  have ha := a.isLt
  unfold tgt
  by_cases h2 : a.val < 18
  · have hd : dirOf a = .f ∨ dirOf a = .b := by
      unfold dirOf; rw [if_neg (by omega)]; split
      · exact .inl rfl
      · exact .inr rfl
    rcases hd with hd | hd <;> rw [hd]
    · exact (congrFun (res_plane m ρ (plane_fwd c)) i).symm
    · exact (congrFun (res_plane m ρ (plane_bwd c)) i).symm
  · have hd : dirOf a = .p := by unfold dirOf; rw [if_neg (by omega), if_neg (by omega), if_neg h2]
    rw [hd]
    have hp := plane_lt c
    rw [mem_rows] at hi
    unfold srcLo len xfLo chunkLo at hi
    rw [if_neg h2, if_neg h2] at hi
    generalize (pos c + (srcE a).val) % 8 = k at hi
    have hk : (i 0 : ℕ) % 512 = (i 0 : ℕ) - 512 * k := by omega
    refine (res_prt m ρ c ?_ ?_).symm
    · unfold Mine; rw [hk]; omega
    · unfold Mine; rw [hk]; omega

end Cert.Planes

end
-- ==== Proof.Steps.lean ====
/-
The state a device's body passes through, and one lemma per kind of operation that takes it to the next.

`held U V W P`: the copies of the slots `U` are still to be issued, those of `V` still to be received, those of `W` are
issued and not yet waited for on the sending side, and the device has the pieces `P`.
-/
module

public import proofs.«01_k».proof.Proof.Regions

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a measure. -/
abbrev 𝒱₀ : Variants := Variants.none

/-! ## The records every device has -/

/-- The levels of the cells. -/
def lvs : sProp 𝕄 := levAts L lv
/-- They can be used any number of times. -/
instance lvs_persistent : BI.Persistent (lvs (F := F)) := by unfold lvs; infer_instance

/-- Every cell's invariant, that round 0 of it is reached, and the levels. -/
def recs (K : Dev nD × CK → ℕ) : sProp 𝕄 :=
  iprop((bigSep Finset.univ fun ck : Dev nD × CK => cellInv ER (rd m ρ) (K ck) (cell ck.1 ck.2))
    ∗ (bigSep Finset.univ fun ck : Dev nD × CK => reached ER (cell ck.1 ck.2) 0) ∗ lvs (F := F))

/-- They can be used any number of times. -/
instance recs_persistent (K : Dev nD × CK → ℕ) : BI.Persistent (recs m ρ K) := by unfold recs; infer_instance

variable (K : Dev nD × CK → ℕ)

/-- The records give each semaphore's invariant, -/
theorem recs_inv (c : Dev nD) (k : CK) : recs m ρ K ⊢ cellInv ER (rd m ρ) (K (c, k)) (cell c k) := by
  unfold recs
  iintro ⟨H, -, -⟩
  iapply (show (bigSep Finset.univ fun ck : Dev nD × CK => cellInv ER (rd m ρ) (K ck) (cell ck.1 ck.2) : sProp 𝕄) ⊢ _ from bigSep_elim (Finset.mem_univ (c, k)))
  iexact H
/-- the mark that its first round is reached, -/
theorem recs_reached (c : Dev nD) (k : CK) : recs m ρ K ⊢ reached ER (cell c k) 0 := by
  unfold recs
  iintro ⟨-, H, -⟩
  iapply (show (bigSep Finset.univ fun ck : Dev nD × CK => reached ER (cell ck.1 ck.2) 0 : sProp 𝕄) ⊢ _ from bigSep_elim (Finset.mem_univ (c, k)))
  iexact H
/-- and the levels. -/
theorem recs_levels : recs m ρ K ⊢ lvs (F := F) := by
  unfold recs
  iintro ⟨-, -, H⟩; iexact H

/-! ## The state -/

/-- A slot still to be issued: what its copy overwrites, the two duties it pays, the position at its send cell. -/
abbrev todo (c : Dev nD) (a : Sl) : sProp 𝕄 :=
  iprop(junk a (tgt a c) ∗ dutyTok ER (sendCell a c) 0 .p ∗ dutyTok ER (recvCell a (tgt a c)) 0 .p ∗ atPos ER (sendCell a c) 0 ∅ 0)
/-- A cell still to be waited on: the position there and the credit. -/
abbrev waiting (c : Dev nD) (a : Sl) (b : Bool) : sProp 𝕄 :=
  iprop(atPos ER (cell c (some (a, b))) 0 ∅ 0 ∗ cred (tallyAt (cell c (some (a, b))) () (amt a)))
/-- The closed cells of one kind. -/
def closed (c : Dev nD) (b : Bool) (S : Finset Sl) : sProp 𝕄 := bigSep S fun a => semVal (cell c (some (a, b))) 0

/-- The staged argument: half of it whole, the other half off the rows the first exchange lends. -/
abbrev restX (c : Dev nD) : sProp 𝕄 :=
  iprop((lx c ↦{fullShare.right} xstg m ρ c) ∗ lx c ↦[Finset.univ \ (rows (p1Lo c 0) 168 ∪ rows (p1Lo c 1) 168)]{fullShare.left} xstg m ρ c)

/-- What a device holds between two steps: `U` the copies still to issue, `V` and `W` those whose receive and send semaphores are still to be waited on, `P` the pieces of the result. -/
def held (c : Dev nD) (U V W : Finset Sl) (P : Finset Pc) : sProp 𝕄 :=
  iprop(recs m ρ K ∗ (∃ S, owes (c : Thread nD τ) (owedS c U) S)
    ∗ (bigSep U (todo c)) ∗ (bigSep V fun a => waiting c a true) ∗ (bigSep W fun a => waiting c a false)
    ∗ closed c true (Finset.univ \ V) ∗ closed c false (Finset.univ \ (U ∪ W)) ∗ semVal (barCell c) 0
    ∗ pieces m ρ c P ∗ restX m ρ c)

/-! ## Sets of pieces -/

/-- Taking some pieces out. -/
theorem pieces_take (c : Dev nD) {P Q : Finset Pc} (h : Q ⊆ P) : pieces m ρ c P ⊢ iprop(pieces m ρ c Q ∗ pieces m ρ c (P \ Q)) :=
  Entails.of_eq (bigSep_sdiff_split h)
/-- Putting pieces back. -/
theorem pieces_put (c : Dev nD) {P Q : Finset Pc} (h : Disjoint Q P) : iprop(pieces m ρ c Q ∗ pieces m ρ c P) ⊢ pieces m ρ c (Q ∪ P) :=
  Entails.of_eq (bigSep_union h).symm

/-- Taking one member out of a conjunction. -/
theorem take_one {I : Type} [DecidableEq I] {S : Finset I} {i : I} (h : i ∈ S) (Φ : I → sProp 𝕄) : bigSep S Φ ⊢ iprop(Φ i ∗ bigSep (S.erase i) Φ) :=
  Entails.of_eq (bigSep_erase h)
/-- Putting one member into a conjunction. -/
theorem put_one {I : Type} [DecidableEq I] {S : Finset I} {i : I} (h : i ∉ S) (Φ : I → sProp 𝕄) : iprop(Φ i ∗ bigSep S Φ) ⊢ bigSep (insert i S) Φ :=
  Entails.of_eq (bigSep_insert h).symm

/-- The duty at a used slot's cells. -/
theorem mem_duty (c : Dev nD) (a : Sl) (b : Bool) (h : a ∈ used) : Dir.p ∈ (rd (F := F) m ρ).duties (cell c (some (a, b))) 0 := by
  rw [duties_slot, if_pos h]; exact Finset.mem_singleton_self _

/-! ## A copy is issued -/

section Send

variable {sp sp' : Space} {s : Shape} {e : EltTy}

/-- Issuing the copy of slot `a`, from any source and destination that are the tables'. -/
theorem step_send {c : Dev nD} {U V W : Finset Sl} {P : Finset Pc} (a : Sl) {n : Dev nD} (hn : n = tgt a c)
    (ha : a ∈ U) (hW : a ∉ W) (hu : a ∈ used) (hP : srcP a ⊆ P)
    {src : Memref sig .tc sp s e} {dst : Memref sig .tc sp' s e}
    {qs qr : DmaSem sig} (hqs : qs = sS a) (hqr : qr = rS a)
    {hsc : (dst : Memref sig (Dev.tc n : Thread nD τ).2.kind sp' s e).view.ref.isScScratch = false}
    {hsrc : src.view.WordExact} {hdst : (dst : Memref sig (Dev.tc n : Thread nD τ).2.kind sp' s e).view.WordExact}
    {hsem : DmaTarget.Typed sp (.dma qr) (.remote (Dev.tc n : Thread nD τ) dst (.dma qs) hsc)}
    {α : Type} {Q : α → sProp 𝕄} {k : PUnit → Prog (TpuEff nD τ sig (Elt F) Λ₀ .tc) α}
    (q : PosShare TreeShare) (fs : Buf (Elt F) (src.view.loc (c : Thread nD τ)))
    (hs : pieces m ρ c (srcP a) = (src.view.loc (c : Thread nD τ) ↦[src.view.set]{q} fs : sProp 𝕄))
    (hj : junk (F := F) a (tgt a c) = iprop(∃ fd : Buf (Elt F) (dst.view.loc (tgt a c : Thread nD τ)), dst.view.loc (tgt a c : Thread nD τ) ↦[dst.view.set]{fullShare} fd))
    (hd : ∀ fd : Buf (Elt F) (dst.view.loc (tgt a c : Thread nD τ)),
      (dst.view.loc (tgt a c : Thread nD τ) ↦[dst.view.set]{fullShare} (dst.view.write (Elt F) fd (src.view.read (Elt F) fs) Finset.univ) : sProp 𝕄)
        = pieces m ρ (tgt a c) (dstP a))
    (hN : dst.view.dmaCredit = amt a)
    (hk : held m ρ K c (U.erase a) V (insert a W) (P \ srcP a) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ
      (.op (.enqueueDma src (.remote (Dev.tc n : Thread nD τ) dst (.dma qs) hsc) (.dma qr) hsrc hdst hsem) k) Q := by
  subst hn hqs hqr
  have hclosed : Finset.univ \ (U ∪ W) = Finset.univ \ (U.erase a ∪ insert a W) := by
    congr 1; ext b; simp only [Finset.mem_union, Finset.mem_erase, Finset.mem_insert]
    by_cases hb : b = a
    · subst hb; simp [ha]
    · simp [hb]
  unfold held at hk ⊢
  rw [hclosed]
  iintro ⟨#HR, ⟨%S, HO⟩, HU, HV, HW, HD, HE, HB, HP, HX⟩
  ihave HU' := (take_one ha (todo c)) $$ HU
  icases HU' with ⟨⟨Hj, Ht1, Ht2, Hat⟩, HU⟩
  ihave Hj' := (Entails.of_eq hj) $$ Hj
  icases Hj' with ⟨%fd, Hj⟩
  ihave HP' := (pieces_take m ρ c hP) $$ HP
  icases HP' with ⟨Hs, HP⟩
  ihave Hs' := (Entails.of_eq hs) $$ Hs
  iapply (Rounds.wp_send_pointsTo 𝒱₀ ER (rd m ρ) (c : Thread nD τ) none (κ₁ := K (c, some (a, false))) (κ₂ := K (tgt a c, some (a, true)))
    (r₁ := 0) (r₂ := 0) (d₁ := Dir.p) (d₂ := Dir.p) (fd := fd)
    (mem_duty m ρ c a false hu) (mem_duty m ρ (tgt a c) a true hu)
    () () (amt a) hN (amount_slot m ρ c a false .p) (amount_slot m ρ (tgt a c) a true .p) (owedS c (U.erase a))
    (by unfold owedS; exact (Finset.sum_erase_add U _ ha).symm) (W := S)
    (Entails.of_eq (hs.symm.trans (payload_send m ρ c a .p).symm))
    (Entails.of_eq ((hd fd).trans (payload_recv m ρ (tgt a c) a .p).symm))) $$ [Hs' Hj HO Ht1 Ht2]
  · isplitr; · iapply (recs_inv m ρ K c (some (a, false))); iexact HR
    isplitr; · iapply (recs_inv m ρ K (tgt a c) (some (a, true))); iexact HR
    isplitl [Hs']; · iexact Hs'
    isplitl [Hj]; · iexact Hj
    isplitl [HO]; · iexact HO
    isplitl [Ht1]; · iexact Ht1
    isplitr; · iapply (recs_reached m ρ K c (some (a, false))); iexact HR
    isplitl [Ht2]; · iexact Ht2
    iapply (recs_reached m ρ K (tgt a c) (some (a, true))); iexact HR
  iintro ⟨Hc, HO⟩
  iapply hk
  isplitr; · iexact HR
  isplitl [HO]; · iexists S; iexact HO
  isplitl [HU]; · iexact HU
  isplitl [HV]; · iexact HV
  isplitl [HW Hc Hat]
  · iapply (put_one hW (fun a => waiting (F := F) c a false))
    isplitl [Hc Hat]
    · isplitl [Hat] <;> iassumption
    · iexact HW
  isplitl [HD]; · iexact HD
  isplitl [HE]; · iexact HE
  isplitl [HB]; · iexact HB
  isplitl [HP] <;> iassumption

end Send

/-! ## A wait -/

section Wait

variable {sp sp' : Space} {s s' : Shape} {e e' : EltTy} {v1 : Memref sig .tc sp' s' e'} {v2 : Memref sig .tc sp s e} {qs : DmaSem sig}
  {h1 : v1.view.WordExact} {h2 : v2.view.WordExact} {α : Type}

/-- A wait on a slot's cell, for the whole of its round: what the round pays, and the cell closes. -/
theorem wait_slot {Q : α → sProp 𝕄} {k : PUnit → Prog (TpuEff nD τ sig (Elt F) Λ₀ .tc) α}
    {c : Dev nD} (a : Sl) (b : Bool) (hu : a ∈ used) (O : CellTallies nD τ sig Unit) {R : sProp 𝕄}
    (hR : (rd (F := F) m ρ).payload (cell c (some (a, b))) 0 .p = R)
    (hq : SemLoc.dma qs = csem (some (a, b))) (hN : v2.view.dmaCredit = amt a)
    (hO : (levAts L lv : sProp 𝕄) ⊢ MayWait (c : Thread nD τ) (csem (some (a, b))) () O) :
    iprop(recs m ρ K ∗ (∃ S, owes (c : Thread nD τ) O S) ∗ waiting c a b)
      ⊢ iprop((((∃ S, owes (c : Thread nD τ) O S) ∗ semVal (cell c (some (a, b))) 0 ∗ R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs v1 v2 h1 h2) k) Q) := by
  have hw : ∀ Kt : PUnit → sProp 𝕄, wpE (defs₀ (F := F)) 𝒱₀ (c : Thread nD τ) none Set.univ (.waitDma2 qs v1 v2 h1 h2) Kt
      = waitSpec (c : Thread nD τ) Set.univ (csem (some (a, b))) (amt a) Kt := fun Kt => by rw [wpE_waitDma2_eq, hq, hN]
  have hO' : recs m ρ K ⊢ MayWait (c : Thread nD τ) (csem (some (a, b))) () O := (@recs_levels F _ m ρ K).trans hO
  iintro ⟨#HR, ⟨%S, HO⟩, Hat, Hc⟩ Hk
  iapply (Rounds.wp_wait_rest_token 𝒱₀ ER (rd m ρ) (c : Thread nD τ) none (κ := K (c, some (a, b))) (sm := csem (some (a, b))) (k' := amt a)
      hw (Set.mem_univ _) () (O := O) (W := S) (R := 0) (m := 0) (T := ∅)
      (by rw [Nat.zero_add, expect_slot m ρ c a b hu])) $$ [HO Hat Hc]
  · isplitr; · iapply (recs_inv m ρ K c (some (a, b))); iexact HR
    isplitl [Hc]; · iexact Hc
    isplitl [HO]; · iexact HO
    isplitr; · iapply hO'; iexact HR
    iexact Hat
  iintro ⟨HO, Hat, -, Hpay⟩
  ihave Hp := (Entails.of_eq (rest_slot m ρ c a b hu R hR)) $$ Hpay
  imod (Rounds.cell_close ER (rd m ρ) (Set.mem_univ (K (c, some (a, b)))) (fun h => h) (R := 0 + 1) (duties_later m ρ _)) $$ [Hat] with Hz
  · isplitr; · iapply (recs_inv m ρ K c (some (a, b))); iexact HR
    iexact Hat
  iapply Hk
  isplitl [HO]; · iexists _; iexact HO
  isplitl [Hz] <;> iassumption

/-- One more semaphore is closed. -/
theorem closed_insert (c : Dev nD) (b : Bool) {S T : Finset Sl} {a : Sl} (ha : a ∉ S) (hT : T = insert a S) :
    iprop(semVal (cell c (some (a, b))) 0 ∗ closed (F := F) c b S) ⊢ closed (F := F) c b T := by
  subst hT; exact put_one ha (fun a => (semVal (cell c (some (a, b))) 0 : sProp 𝕄))

/-- The wait on slot `a`'s receive cell yields what the copy landed. -/
theorem step_recv {Q : α → sProp 𝕄} {k : PUnit → Prog (TpuEff nD τ sig (Elt F) Λ₀ .tc) α}
    {c : Dev nD} {U V W : Finset Sl} {P : Finset Pc} (a : Sl) (ha : a ∈ V) (hu : a ∈ used)
    (hU : ∀ b ∈ U, ord a + 2 < ord b + 2) (hP : Disjoint (dstP a) P) (hq : qs = rS a) (hN : v2.view.dmaCredit = amt a)
    (hk : held m ρ K c U (V.erase a) W (dstP a ∪ P) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ (.op (.waitDma2 qs v1 v2 h1 h2) k) Q := by
  unfold held at hk ⊢
  iintro ⟨#HR, HO, HU, HV, HW, HD, HE, HB, HP, HX⟩
  ihave HV' := (take_one ha fun a => waiting (F := F) c a true) $$ HV
  icases HV' with ⟨Hw, HV⟩
  iapply (wait_slot m ρ K a true hu (owedS c U) (payload_recv m ρ c a .p) (congrArg SemLoc.dma hq) hN
    (mayWait_owedS c (some (a, true)) (ord a + 2) (Nat.le_of_eq (lv_recv a c ())) U hU)) $$ [HO Hw]
  · isplitr; · iexact HR
    isplitl [HO] <;> iassumption
  iintro ⟨HO, Hz, Hp⟩
  iapply hk
  isplitr; · iexact HR
  isplitl [HO]; · iexact HO
  isplitl [HU]; · iexact HU
  isplitl [HV]; · iexact HV
  isplitl [HW]; · iexact HW
  isplitl [HD Hz]
  · iapply (closed_insert (F := F) c true (S := Finset.univ \ V) (a := a) (by simp [ha])
      (by ext x; simp only [Finset.mem_sdiff, Finset.mem_univ, true_and, Finset.mem_erase, Finset.mem_insert]; tauto))
    isplitl [Hz] <;> iassumption
  isplitl [HE]; · iexact HE
  isplitl [HB]; · iexact HB
  isplitl [HP Hp]
  · iapply (pieces_put m ρ c hP)
    isplitl [Hp] <;> iassumption
  iexact HX

/-- The wait on slot `a`'s send cell gives back what the copy was lent. -/
theorem step_sent {Q : α → sProp 𝕄} {k : PUnit → Prog (TpuEff nD τ sig (Elt F) Λ₀ .tc) α}
    {c : Dev nD} {U V W : Finset Sl} {P : Finset Pc} (a : Sl) (ha : a ∈ W) (hu : a ∈ used) (haU : a ∉ U)
    (hP : Disjoint (srcP a) P) (hq : qs = sS a) (hN : v2.view.dmaCredit = amt a)
    (hk : held m ρ K c U V (W.erase a) (srcP a ∪ P) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ (.op (.waitDma2 qs v1 v2 h1 h2) k) Q := by
  unfold held at hk ⊢
  iintro ⟨#HR, HO, HU, HV, HW, HD, HE, HB, HP, HX⟩
  ihave HW' := (take_one ha fun a => waiting (F := F) c a false) $$ HW
  icases HW' with ⟨Hw, HW⟩
  iapply (wait_slot m ρ K a false hu (owedS c U) (payload_send m ρ c a .p) (congrArg SemLoc.dma hq) hN
    (mayWait_owedS c (some (a, false)) 0 (Nat.le_of_eq (lv_send a c ())) U fun b _ => Nat.succ_pos _)) $$ [HO Hw]
  · isplitr; · iexact HR
    isplitl [HO] <;> iassumption
  iintro ⟨HO, Hz, Hp⟩
  iapply hk
  isplitr; · iexact HR
  isplitl [HO]; · iexact HO
  isplitl [HU]; · iexact HU
  isplitl [HV]; · iexact HV
  isplitl [HW]; · iexact HW
  isplitl [HD]; · iexact HD
  isplitl [HE Hz]
  · iapply (closed_insert (F := F) c false (S := Finset.univ \ (U ∪ W)) (a := a) (by simp [ha])
      (by
        ext x
        simp only [Finset.mem_sdiff, Finset.mem_univ, true_and, Finset.mem_erase, Finset.mem_insert, Finset.mem_union]
        by_cases hx : x = a
        · subst hx; simp [haU]
        · simp [hx]))
    isplitl [Hz] <;> iassumption
  isplitl [HB]; · iexact HB
  isplitl [HP Hp]
  · iapply (pieces_put m ρ c hP)
    isplitl [Hp] <;> iassumption
  iexact HX

end Wait

/-! ## The three kinds of copy -/

/-- Reading through a view and writing through it again changes nothing there. -/
theorem write_read_self {sp : Space} {s : Shape} {e : EltTy} {κ : Kind} (v : View sig κ sp s e) (fd fs : v.ty.Contents (Elt F)) :
    ∀ i ∈ v.set, v.write (Elt F) fd (v.read (Elt F) fs) Finset.univ i = fs i := by
  intro i hi
  obtain ⟨x, -, rfl⟩ := Finset.mem_map.mp hi
  rw [View.write_emb_of_mem _ _ (Finset.mem_univ x), View.read_apply, cast_cast, cast_eq]

section Copies

variable {α : Type} {c : Dev nD} {U V W : Finset Sl} {P : Finset Pc} {qs qr : DmaSem sig}

/-- Whole rows of the result, as a memref. -/
abbrev oRow (n : ℕ) (off : Fin 2 → ℕ) (inb : ∀ a, off a + (![n, 1024] : Fin 2 → ℕ) a ≤ S4096x1024.size a) : Memref sig .tc .vmem ⟨2, ![n, 1024]⟩ .f32 :=
  oM.slice (Rect.unit (s := S4096x1024) off ![n, 1024] inb) (fun _ => rfl)

/-- A copy of rows of the result to the same rows of a neighbour's. -/
theorem step_out {Q : α → sProp 𝕄} {k : PUnit → Prog (TpuEff nD τ sig (Elt F) Λ₀ .tc) α}
    (a : Sl) (h2 : 2 ≤ a.val) {dn : Dev nD} (hn : dn = tgt a c)
    (ha : a ∈ U) (hW : a ∉ W) (hu : a ∈ used) (hP : srcP a ⊆ P) (hqs : qs = sS a) (hqr : qr = rS a)
    {n : ℕ} (hl : n = len a) {off : Fin 2 → ℕ} (hoff : off = ![srcLo a c, 0]) {inb : ∀ a, off a + (![n, 1024] : Fin 2 → ℕ) a ≤ S4096x1024.size a}
    {hsc : (oRow n off inb : Memref sig (Dev.tc dn : Thread nD τ).2.kind .vmem ⟨2, ![n, 1024]⟩ .f32).view.ref.isScScratch = false}
    {hsrc : (oRow n off inb).view.WordExact} {hdst : (oRow n off inb : Memref sig (Dev.tc dn : Thread nD τ).2.kind .vmem ⟨2, ![n, 1024]⟩ .f32).view.WordExact}
    {hsem : DmaTarget.Typed .vmem (.dma qr) (.remote (Dev.tc dn : Thread nD τ) (oRow n off inb) (.dma qs) hsc)}
    (hN : (oRow n off inb).view.dmaCredit = amt a)
    (hk : held m ρ K c (U.erase a) V (insert a W) (P \ srcP a) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ
      (.op (.enqueueDma (oRow n off inb) (.remote (Dev.tc dn : Thread nD τ) (oRow n off inb) (.dma qs) hsc) (.dma qr) hsrc hdst hsem) k) Q := by
  have hset : (oRow n off inb).view.set = rows (srcLo a c) (len a) :=
    (View.set_slice_whole _ _).trans ((rect_rows hoff inb).trans (congrArg (rows _) hl))
  refine step_send m ρ K a hn ha hW hu hP hqs hqr (shr a) (res m ρ c) ?_ ?_ ?_ hN hk
  · rw [src_out m ρ c a h2, hset]
  · rw [junk_out (tgt a c) a h2, dstLo_tgt a c h2]; rw [← hset]
  · intro fd
    rw [dst_out m ρ (tgt a c) a h2, dstLo_tgt a c h2, ← hset]
    refine pointsTo_congr fun i hi => (write_read_self (oRow n off inb).view fd (res m ρ c) i hi).trans (res_tgt m ρ a c h2 i ?_)
    rw [← hset]; exact hi

/-- The first exchange's copy of rows of the argument to the partner's landing buffer. -/
theorem step_p1 {Q : α → sProp 𝕄} {k : PUnit → Prog (TpuEff nD τ sig (Elt F) Λ₀ .tc) α}
    (a : Sl) (h2 : a.val < 2) {dn : Dev nD} (hn : dn = tgt a c)
    (ha : a ∈ U) (hW : a ∉ W) (hu : a ∈ used) (hP : srcP a ⊆ P) (hqs : qs = sS a) (hqr : qr = rS a)
    {off off' : Fin 2 → ℕ} (hoff : off = ![p1Lo c (half a), 0]) (hoff' : off' = ![168 * (half a).val, 0])
    {inb : ∀ a, off a + S168x1024.size a ≤ S4096x1024.size a} {inb' : ∀ a, off' a + S168x1024.size a ≤ S336x1024.size a}
    {hsc : (pM.slice (Rect.unit (s := S336x1024) off' S168x1024.size inb') (fun _ => rfl) : Memref sig (Dev.tc dn : Thread nD τ).2.kind .vmem S168x1024 .f32).view.ref.isScScratch = false}
    {hsrc : (xM.slice (Rect.unit (s := S4096x1024) off S168x1024.size inb) (fun _ => rfl)).view.WordExact}
    {hdst : (pM.slice (Rect.unit (s := S336x1024) off' S168x1024.size inb') (fun _ => rfl) : Memref sig (Dev.tc dn : Thread nD τ).2.kind .vmem S168x1024 .f32).view.WordExact}
    {hsem : DmaTarget.Typed .vmem (.dma qr) (.remote (Dev.tc dn : Thread nD τ) (pM.slice (Rect.unit (s := S336x1024) off' S168x1024.size inb') (fun _ => rfl)) (.dma qs) hsc)}
    (hN : (pM.slice (Rect.unit (s := S336x1024) off' S168x1024.size inb') (fun _ => rfl)).view.dmaCredit = amt a)
    (hk : held m ρ K c (U.erase a) V (insert a W) (P \ srcP a) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ
      (.op (.enqueueDma (xM.slice (Rect.unit (s := S4096x1024) off S168x1024.size inb) (fun _ => rfl))
        (.remote (Dev.tc dn : Thread nD τ) (pM.slice (Rect.unit (s := S336x1024) off' S168x1024.size inb') (fun _ => rfl)) (.dma qs) hsc) (.dma qr) hsrc hdst hsem) k) Q := by
  have ht : tgt a c = prt c := by unfold tgt dirOf; rw [if_pos h2]; rfl
  have hset : (xM.slice (Rect.unit (s := S4096x1024) off S168x1024.size inb) (fun _ => rfl)).view.set = rows (p1Lo c (half a)) 168 :=
    (View.set_slice_whole _ _).trans (rect_rows hoff inb)
  have hset' : (pM.slice (Rect.unit (s := S336x1024) off' S168x1024.size inb') (fun _ => rfl)).view.set = prows (168 * (half a).val) 168 :=
    (View.set_slice_whole _ _).trans (rect_prows hoff' inb')
  refine step_send m ρ K a hn ha hW hu hP hqs hqr fullShare.left (xstg m ρ c) ?_ ?_ ?_ hN hk
  · rw [src_p1 m ρ c a h2, hset]
  · rw [junk_p1 (tgt a c) a h2]; rw [← hset']
  · intro fd
    rw [dst_p1 m ρ (tgt a c) a h2, ← hset']
    refine pointsTo_congr fun i hi => ?_
    obtain ⟨x, -, rfl⟩ := Finset.mem_map.mp hi
    rw [View.write_emb_of_mem _ _ (Finset.mem_univ x), View.read_apply, cast_cast, cast_eq, ht]
    unfold got
    rw [prt_prt]
    refine congrArg (xstg m ρ c) ?_
    have hlo := p1Lo_eq c (half a)
    subst hoff hoff'
    funext b
    refine Fin.ext ?_
    change ((Rect.unit (s := S4096x1024) ![p1Lo c (half a), 0] S168x1024.size inb).emb x b : ℕ)
      = ((Rect.unit (s := S4096x1024) ![subLo (prt c) 0 0, 0] S336x1024.size (sub_inb (prt c))).emb
          ((Rect.unit (s := S336x1024) ![168 * (half a).val, 0] S168x1024.size inb').emb x) b : ℕ)
    fin_cases b
    · simp [Rect.emb_apply]; omega
    · simp [Rect.emb_apply]

end Copies

/-! ## The own part is computed -/

/-- Equal summands make equal sums. -/
theorem addf_at {s s' : Shape} {f g : FVec F s .f32} {f' g' : FVec F s' .f32} {x : s.Idx} {y : s'.Idx} (h1 : f x = f' y) (h2 : g x = g' y) :
    addf f g x = addf f' g' y := by
  simp only [addf, h1, h2]

/-- The sum of own and landed rows is the result there. -/
theorem own_value (c : Dev nD) (s : Fin 2) {off off' : Fin 2 → ℕ} (hoff : off = ![subLo c 0 s, 0]) (hoff' : off' = ![168 * s.val, 0])
    (inb : ∀ a, off a + S168x1024.size a ≤ S4096x1024.size a) (inb' : ∀ a, off' a + S168x1024.size a ≤ S336x1024.size a) (x : S168x1024.Idx) :
    addf (s := S168x1024) (fun x => xstg m ρ c ((Rect.unit (s := S4096x1024) off S168x1024.size inb).emb x))
        (fun x => got m ρ c ((Rect.unit (s := S336x1024) off' S168x1024.size inb').emb x)) x
      = res m ρ c ((Rect.unit (s := S4096x1024) off S168x1024.size inb).emb x) := by
  have hx : (((Rect.unit (s := S4096x1024) off S168x1024.size inb).emb x) 0 : ℕ) = subLo c 0 s + (x 0 : ℕ) := by
    subst hoff; simp [Rect.emb_apply]
  have hi : (Rect.unit (s := S4096x1024) ![subLo c 0 0, 0] S336x1024.size (sub_inb c)).emb ((Rect.unit (s := S336x1024) off' S168x1024.size inb').emb x)
      = (Rect.unit (s := S4096x1024) off S168x1024.size inb).emb x := by
    have hl : subLo c 0 s = subLo c 0 0 + 168 * s.val := by simp [subLo]
    subst hoff hoff'
    funext b
    refine Fin.ext ?_
    fin_cases b
    · simp [Rect.emb_apply]; omega
    · simp [Rect.emb_apply]
  have hx0 : (x 0 : ℕ) < 168 := (x 0).isLt
  have hp := pos_lt c
  have hs := s.isLt
  have hpl := plane_lt c
  generalize hy : (Rect.unit (s := S4096x1024) off S168x1024.size inb).emb x = y at hx hi
  have hlo : subLo c 0 s = 512 * pos c + 176 * plane c + 168 * s.val := by
    unfold subLo chunkLo; simp [Nat.mod_eq_of_lt hp]
  have ht : 176 * plane c + 168 * s.val + (x 0 : ℕ) < 512 := by omega
  have hyt : (y 0 : ℕ) = 512 * pos c + (176 * plane c + 168 * s.val + (x 0 : ℕ)) := by rw [hx, hlo]; omega
  have hmod : (y 0 : ℕ) % 512 = 176 * plane c + 168 * s.val + (x 0 : ℕ) := by rw [hyt, Nat.mul_add_mod, Nat.mod_eq_of_lt ht]
  have hm : Mine (plane c) y := by unfold Mine; rw [hmod]; omega
  have hd : (y 0 : ℕ) / 512 = pos c := by omega
  unfold res
  rw [if_pos hm]
  refine addf_at ?_ ?_
  · unfold plX; rw [hy, hd, devAt_plane_pos]
  · unfold plX got; rw [hi, hd, devAt_other_pos]

/-- Half `s` of the own part: the loads and the store. -/
theorem step_own {α : Type} {Q : α → sProp 𝕄} {k : PUnit → Prog (TpuEff nD τ sig (Elt F) Λ₀ .tc) α}
    {c : Dev nD} {U V W : Finset Sl} {P : Finset Pc} (s : Fin 2) (hw : {Pc.w s, Pc.pb s} ⊆ P) (hd : Disjoint (insert (Pc.pb s) (subP 0 s)) (P \ {Pc.w s, Pc.pb s}))
    (hd' : Pc.pb s ∉ subP 0 s)
    {off off' : Fin 2 → ℕ} (hoff : off = ![subLo c 0 s, 0]) (hoff' : off' = ![168 * s.val, 0])
    {inb : ∀ a, off a + S168x1024.size a ≤ S4096x1024.size a} {inb' : ∀ a, off' a + S168x1024.size a ≤ S336x1024.size a}
    {pay : Vec F S168x1024 .f32 → Vec F S168x1024 .f32 → FVec F S168x1024 .f32} (hpay : ∀ a b, pay a b = addf a b)
    {hl1 : xM.view.LoadsAt (Rect.unit (s := S4096x1024) off S168x1024.size inb).toLoadRect}
    {hl2 : pM.view.LoadsAt (Rect.unit (s := S336x1024) off' S168x1024.size inb').toLoadRect}
    {hl3 : oM.view.LoadsAt (Rect.unit (s := S4096x1024) off S168x1024.size inb).toLoadRect}
    {hst : (oM.access (Rect.unit (s := S4096x1024) off S168x1024.size inb)).Stores Finset.univ}
    {hm : (Finset.univ : Finset (Rect.unit (s := S4096x1024) off S168x1024.size inb).shape.Idx) = Finset.univ ∨ ∀ a, (Rect.unit (s := S4096x1024) off S168x1024.size inb).stride a = 1}
    (hk : held m ρ K c U V W (insert (Pc.pb s) (subP 0 s) ∪ (P \ {Pc.w s, Pc.pb s})) ⊢ wp frame (wpE (defs₀ (F := F)) 𝒱₀ (c : Thread nD τ) none) Set.univ (k ⟨⟩) Q) :
    held m ρ K c U V W P ⊢ wp frame (wpE (defs₀ (F := F)) 𝒱₀ (c : Thread nD τ) none) Set.univ
      (.op (.load xM (Rect.unit (s := S4096x1024) off S168x1024.size inb).toLoadRect hl1) fun a =>
        .op (.load pM (Rect.unit (s := S336x1024) off' S168x1024.size inb').toLoadRect hl2) fun b =>
        .op (.load oM (Rect.unit (s := S4096x1024) off S168x1024.size inb).toLoadRect hl3) fun _ =>
        .op (.store oM (Rect.unit (s := S4096x1024) off S168x1024.size inb) (pay a b) Finset.univ hst hm) k) Q := by
  have hset : (oM.access (Rect.unit (s := S4096x1024) off S168x1024.size inb)).set = rows (subLo c 0 s) 168 :=
    (View.set_slice_whole _ _).trans (rect_rows hoff inb)
  have hset' : (pM.access (Rect.unit (s := S336x1024) off' S168x1024.size inb')).set = prows (168 * s.val) 168 :=
    (View.set_slice_whole _ _).trans (rect_prows hoff' inb')
  unfold held at hk ⊢
  iintro ⟨#HR, HO, HU, HV, HW, HD, HE, HB, HP, ⟨HX, HX'⟩⟩
  ihave HP' := (pieces_take m ρ c hw) $$ HP
  icases HP' with ⟨Hw, HP⟩
  ihave Hw' := (Entails.of_eq (show pieces m ρ c {Pc.w s, Pc.pb s} = iprop((∃ f : Buf (Elt F) (lo c), lo c ↦[rows (subLo c 0 s) 168]{fullShare} f)
      ∗ lp c ↦[prows (168 * s.val) 168]{fullShare} got m ρ c) from by
    unfold pieces; rw [bigSep_insert (by simp), bigSep_singleton]; rfl)) $$ Hw
  icases Hw' with ⟨⟨%f, Hw⟩, Hpb⟩
  iapply (wp_load_rect 𝒱₀ (c : Thread nD τ) none Set.univ (m := xM) (r := Rect.unit (s := S4096x1024) off S168x1024.size inb) (S := Finset.univ) (Finset.subset_univ _)) $$ HX
  iintro HX
  iapply (wp_load_rect 𝒱₀ (c : Thread nD τ) none Set.univ (m := pM) (r := Rect.unit (s := S336x1024) off' S168x1024.size inb') (S := prows (168 * s.val) 168) (Finset.subset_of_eq hset')) $$ Hpb
  iintro Hpb
  iapply (wp_load_rect 𝒱₀ (c : Thread nD τ) none Set.univ (m := oM) (r := Rect.unit (s := S4096x1024) off S168x1024.size inb) (S := rows (subLo c 0 s) 168) (Finset.subset_of_eq hset)) $$ Hw
  iintro Hw
  iapply (wp_store 𝒱₀ (c : Thread nD τ) none Set.univ (m := oM) (r := Rect.unit (s := S4096x1024) off S168x1024.size inb) (S := rows (subLo c 0 s) 168) (Finset.subset_of_eq hset)) $$ Hw
  iintro Hw
  ihave Hw' := (Entails.of_eq (pointsTo_congr (Ix := Unit) (Val := Elt F) (Name := ℕ) (U := UU) (Lvl := ℕ) (ℓ := lo c) (g := res m ρ c) (fun i hi => by
    rw [← hset] at hi
    obtain ⟨x, -, rfl⟩ := Finset.mem_map.mp hi
    rw [View.write_emb_of_mem _ _ (Finset.mem_univ x), cast_eq, hpay]
    exact own_value m ρ c s hoff hoff' inb inb' x))) $$ Hw
  iapply hk
  isplitr; · iexact HR
  isplitl [HO]; · iexact HO
  isplitl [HU]; · iexact HU
  isplitl [HV]; · iexact HV
  isplitl [HW]; · iexact HW
  isplitl [HD]; · iexact HD
  isplitl [HE]; · iexact HE
  isplitl [HB]; · iexact HB
  isplitl [HP Hw' Hpb]
  · iapply (pieces_put m ρ c hd)
    isplitl [Hw' Hpb]
    · iapply (Entails.of_eq (show pieces m ρ c (insert (Pc.pb s) (subP 0 s)) = iprop((lp c ↦[prows (168 * s.val) 168]{fullShare} got m ρ c)
          ∗ pieces m ρ c (subP 0 s)) from by unfold pieces; rw [bigSep_insert hd']; rfl).symm)
      isplitl [Hpb]; · iexact Hpb
      iapply (Entails.of_eq (subP_eq m ρ c 0 s).symm)
      iexact Hw'
    · iexact HP
  isplitl [HX] <;> iassumption

end Cert.Planes

end
-- ==== Proof.Start.lean ====
/-
The start and the end of a device's body: the handshake on the barrier semaphore, the cut of the staged memory into
pieces, and the pieces put together again.
-/
module

public import proofs.«01_k».proof.Proof.Steps

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The handshake -/

/-- The pieces a device has when its body starts. -/
def P₀ : Finset Pc := {.w 0, .w 1, .xs 0, .xs 1}

/-- Before the handshake: the signals in the directions `D` are still to be given. -/
def pre (c : Dev nD) (D : Finset Dir) : sProp 𝕄 :=
  iprop(recs m ρ K ∗ (∃ S, owes (c : Thread nD τ) (owedS c used + ∑ d ∈ D, owedB c d) S)
    ∗ (bigSep D fun d => iprop(dutyTok ER (barCell (nbr d c)) 0 d ∗ barPay (F := F) d (nbr d c)))
    ∗ atPos ER (barCell c) 0 ∅ 0 ∗ cred (tallyAt (barCell c) () 3)
    ∗ (bigSep used fun a => iprop(dutyTok ER (sendCell a c) 0 .p ∗ dutyTok ER (recvCell a (tgt a c)) 0 .p ∗ atPos ER (sendCell a c) 0 ∅ 0))
    ∗ (bigSep used fun a => waiting c a true)
    ∗ closed c true (Finset.univ \ used) ∗ closed c false (Finset.univ \ used) ∗ pieces m ρ c P₀ ∗ restX m ρ c)

/-- The signal in direction `d`. -/
theorem step_signal {α : Type} {Q : α → sProp 𝕄} {k : PUnit → Prog (TpuEff nD τ sig (Elt F) Λ₀ .tc) α}
    {c : Dev nD} {D : Finset Dir} (d : Dir) (hd : d ∈ D) {dn : Dev nD} (hn : dn = nbr d c) {n : ℤ} (h1 : n = ((1 : ℕ) : ℤ)) {s : Sem sig} (hs : s = barS)
    (hk : pre m ρ K c (D.erase d) ⊢ wp frame (wpE (defs₀ (F := F)) 𝒱₀ (c : Thread nD τ) none) Set.univ (k ⟨⟩) Q) :
    pre m ρ K c D ⊢ wp frame (wpE (defs₀ (F := F)) 𝒱₀ (c : Thread nD τ) none) Set.univ
      (.op (.semSignal ((dn, .tc) : Thread nD τ) s n) k) Q := by
  subst hn h1 hs
  have hsum : owedS c used + ∑ d ∈ D, owedB c d
      = owedS c used + ∑ d ∈ D.erase d, owedB c d + tallyAt ((nbr d c : Thread nD τ), SemLoc.reg barS) () 1 := by
    rw [← Finset.sum_erase_add D _ hd, ← add_assoc]; rfl
  have hpay : barPay (F := F) d (nbr d c) ⊢ (rd m ρ).payload ((nbr d c : Thread nD τ), SemLoc.reg barS) 0 d :=
    Entails.of_eq (payload_bar m ρ (nbr d c) d).symm
  unfold pre at hk ⊢
  iintro ⟨#HR, ⟨%S, HO⟩, HD, Hrest⟩
  ihave HD' := (take_one hd fun d => iprop(dutyTok ER (barCell (nbr d c)) 0 d ∗ barPay (F := F) d (nbr d c))) $$ HD
  icases HD' with ⟨⟨Ht, Hp⟩, HD⟩
  iapply (Rounds.wp_signal 𝒱₀ ER (rd m ρ) (c : Thread nD τ) none (dst := (nbr d c : Thread nD τ)) (κ := K (nbr d c, none))
      (d := d) (by rw [show (((nbr d c : Dev nD) : Thread nD τ), SemLoc.reg barS) = barCell (nbr d c) from rfl, duties_bar]; exact Finset.mem_univ _)
      (amount_bar m ρ (nbr d c) d) () (owedS c used + ∑ d ∈ D.erase d, owedB c d)
      hsum) $$ [HO Ht Hp]
  · isplitr; · iapply (recs_inv m ρ K (nbr d c) none); iexact HR
    isplitl [HO]; · iexact HO
    isplitl [Ht]; · iexact Ht
    isplitl [Hp]; · iapply hpay; iexact Hp
    iapply (recs_reached m ρ K (nbr d c) none); iexact HR
  iintro HO
  iapply hk
  isplitr; · iexact HR
  isplitl [HO]; · iexists S; iexact HO
  isplitl [HD] <;> iassumption

/-- The wait for the three neighbours: all that the device's copies overwrite. -/
theorem step_bar {α : Type} {Q : α → sProp 𝕄} {k : PUnit → Prog (TpuEff nD τ sig (Elt F) Λ₀ .tc) α}
    {c : Dev nD} {D : Finset Dir} (hD : D = ∅) {n : ℤ} (h3 : n = ((3 : ℕ) : ℤ)) {s : Sem sig} (hs : s = barS)
    (hk : held m ρ K c used used ∅ P₀ ⊢ wp frame (wpE (defs₀ (F := F)) 𝒱₀ (c : Thread nD τ) none) Set.univ (k ⟨⟩) Q) :
    pre m ρ K c D ⊢ wp frame (wpE (defs₀ (F := F)) 𝒱₀ (c : Thread nD τ) none) Set.univ (.op (.semWait s n) k) Q := by
  subst hD h3 hs
  have hO' : recs m ρ K ⊢ MayWait (c : Thread nD τ) (SemLoc.reg barS) () (owedS c used) :=
    (@recs_levels F _ m ρ K).trans (mayWait_owedS c none 1 (Nat.le_of_eq (lv_bar c ())) used fun b _ => by omega)
  have hrest : bigSep ((rd m ρ).duties ((c : Thread nD τ), SemLoc.reg barS) 0 \ ∅) (fun d => (rd m ρ).payload ((c : Thread nD τ), SemLoc.reg barS) 0 d)
      ⊢ bigSep used fun a => junk a (tgt a c) := Entails.of_eq (rest_bar m ρ c)
  have htodo : (bigSep used (todo (F := F) c) : sProp 𝕄) = iprop((bigSep used fun a => junk a (tgt a c))
      ∗ bigSep used fun a => iprop(dutyTok ER (sendCell a c) 0 .p ∗ dutyTok ER (recvCell a (tgt a c)) 0 .p ∗ atPos ER (sendCell a c) 0 ∅ 0)) :=
    bigSep_sep' used _ _
  unfold held at hk
  unfold pre
  rw [Finset.sum_empty, add_zero]
  rw [Finset.union_empty, bigSep_empty] at hk
  iintro ⟨#HR, ⟨%S, HO⟩, -, Hat, Hc, HU, HV, HD, HE, HP, HX⟩
  iapply (Rounds.wp_wait_rest_token 𝒱₀ ER (rd m ρ) (c : Thread nD τ) none (κ := K (c, none))
      (wpE_semWait_eq 𝒱₀ (c : Thread nD τ) none Set.univ) (Set.mem_univ _) () (O := owedS c used) (W := S) (R := 0) (m := 0) (T := ∅)
      (by rw [show ((c : Thread nD τ), SemLoc.reg barS) = barCell c from rfl, expect_bar])) $$ [HO Hat Hc]
  · isplitr; · iapply (recs_inv m ρ K c none); iexact HR
    isplitl [Hc]; · iexact Hc
    isplitl [HO]; · iexact HO
    isplitr; · iapply hO'; iexact HR
    iexact Hat
  iintro ⟨HO, Hat, -, Hpay⟩
  ihave Hp := hrest $$ Hpay
  imod (Rounds.cell_close ER (rd m ρ) (Set.mem_univ (K (c, none))) (fun h => h) (R := 0 + 1) (duties_later m ρ (barCell c))) $$ [Hat] with Hz
  · isplitr; · iapply (recs_inv m ρ K c none); iexact HR
    iexact Hat
  iapply hk
  isplitr; · iexact HR
  isplitl [HO]; · iexists _; iexact HO
  isplitl [HU Hp]
  · iapply (Entails.of_eq htodo.symm)
    isplitl [Hp] <;> iassumption
  isplitl [HV]; · iexact HV
  isplitr; · iempintro
  isplitl [HD]; · iexact HD
  isplitl [HE]; · iexact HE
  isplitl [Hz]; · iexact Hz
  isplitl [HP] <;> iassumption

/-! ## The staged result, cut -/

/-- The landing places of the copies cover the array. -/
theorem cut_cover (c : Dev nD) : used.biUnion (fun a => rows (dstLo a c) (len a)) = Finset.univ := by
  refine Finset.eq_univ_of_forall fun i => ?_
  have hi : (i 0 : ℕ) < 4096 := (i 0).isLt
  have h1 : ∀ q : Fin 8, ∃ e : Fin 8, chunkLo c e = 512 * q.val := by revert c; decide +kernel
  have h2 : ∀ (e : Fin 8) (s : Fin 2), ∃ a ∈ used, a.val < 18 ∧ dstE a = e ∧ half a = s := by decide +kernel
  have h3 : ∀ e : Fin 8, ∃ a ∈ used, ¬ a.val < 18 ∧ dstE a = e := by decide +kernel
  obtain ⟨e, he⟩ := h1 ⟨(i 0 : ℕ) / 512, by omega⟩
  simp only at he
  have hp := plane_lt c
  have hsub : ∀ s : Fin 2, 176 * plane c + 168 * s.val ≤ (i 0 : ℕ) % 512 → (i 0 : ℕ) % 512 < 176 * plane c + 168 * s.val + 168 →
      i ∈ used.biUnion (fun a => rows (dstLo a c) (len a)) := by
    intro s hs1 hs2
    obtain ⟨a, ha, h18, hae, has⟩ := h2 e s
    refine Finset.mem_biUnion.mpr ⟨a, ha, mem_rows.mpr ?_⟩
    unfold dstLo len subLo
    rw [if_pos h18, if_pos h18, hae, has, he]
    omega
  by_cases h0 : 176 * plane c ≤ (i 0 : ℕ) % 512 ∧ (i 0 : ℕ) % 512 < 176 * plane c + 168
  · exact hsub 0 (by simpa using h0.1) (by simpa using h0.2)
  by_cases h4 : 176 * plane c + 168 ≤ (i 0 : ℕ) % 512 ∧ (i 0 : ℕ) % 512 < 176 * plane c + 336
  · exact hsub 1 (by simpa using h4.1) (by simpa using h4.2)
  obtain ⟨a, ha, h18, hae⟩ := h3 e
  refine Finset.mem_biUnion.mpr ⟨a, ha, mem_rows.mpr ?_⟩
  unfold dstLo len xrLo
  rw [if_neg h18, if_neg h18, hae, he]
  omega

/-- They are pairwise apart. -/
theorem cut_apart (c : Dev nD) : ∀ a ∈ used, ∀ b ∈ used, a ≠ b → dstLo a c + len a ≤ dstLo b c ∨ dstLo b c + len b ≤ dstLo a c := by
  revert c; decide +kernel

/-- The staged result is the rows the slots' copies overwrite and the rows the device computes. -/
theorem cut (c : Dev nD) (f : Buf (Elt F) (lo c)) :
    (lo c ↦{fullShare} f : sProp 𝕄) = bigSep used fun a => lo c ↦[rows (dstLo a c) (len a)]{fullShare} f := by
  have h := pointsTo_biUnion (Ix := Unit) (Val := Elt F) (Name := ℕ) (U := UU) (Lvl := ℕ) (ℓ := lo c) (q := fullShare) (f := f) used
    (fun a => rows (dstLo a c) (len a)) (fun a ha b hb hab => Finset.disjoint_left.mpr fun i hi hi' => by
      rw [mem_rows] at hi hi'
      rcases cut_apart c a ha b hb hab with h | h <;> omega)
  rw [← h, cut_cover]

/-- The rows of a first-exchange slot, at any contents, are a half of the own part still to be computed. -/
theorem cut_w (c : Dev nD) (s : Fin 2) (a : Sl) (ha : a.val = s.val) (f : Buf (Elt F) (lo c)) :
    (lo c ↦[rows (dstLo a c) (len a)]{fullShare} f : sProp 𝕄) ⊢ piece m ρ c (.w s) := by
  have hl : dstLo a c = subLo c 0 s := by
    have h : ∀ (a : Sl) (s : Fin 2), a.val = s.val → dstE a = 0 ∧ half a = s := by decide +kernel
    unfold dstLo; rw [if_pos (by omega), (h a s ha).1, (h a s ha).2]
  have hn : len a = 168 := by unfold len; rw [if_pos (by omega)]
  rw [hl, hn]
  unfold piece
  iintro H; iexists f; iexact H

/-- The slots whose copies land in the result. -/
def outs : Finset Sl := (used.erase 0).erase 1

/-- The used slots are the two of the first exchange and the others. -/
theorem used_erase (Φ : Sl → sProp 𝕄) : bigSep used Φ = iprop(Φ 0 ∗ Φ 1 ∗ bigSep outs Φ) := by
  rw [bigSep_erase (show (0 : Sl) ∈ used by decide), bigSep_erase (show (1 : Sl) ∈ used.erase 0 by decide)]
  rfl

/-- Regrouping three assertions. -/
theorem sep_shift (P Q R : sProp 𝕄) : iprop(P ∗ Q ∗ R) = iprop((P ∗ Q) ∗ R) :=
  have h := Laws.sep_assoc (P := P) (Q := Q) (R := R)
  BI.equiv_iff.mp ⟨h.2, h.1⟩

/-- The result's staging, cut into the rows the device computes and the rows its neighbours' copies overwrite. -/
theorem cut_lo (c : Dev nD) (f : Buf (Elt F) (lo c)) :
    (lo c ↦{fullShare} f : sProp 𝕄) ⊢ iprop(piece m ρ c (.w 0) ∗ piece m ρ c (.w 1) ∗ bigSep outs fun a => junk (F := F) a c) := by
  have hr : (bigSep outs fun a => lo c ↦[rows (dstLo a c) (len a)]{fullShare} f : sProp 𝕄) ⊢ bigSep outs fun a => junk (F := F) a c :=
    bigSep_mono fun a ha => by
      rw [junk_out c a (by revert a; decide +kernel)]
      show (lo c ↦[rows (dstLo a c) (len a)]{fullShare} f : sProp 𝕄) ⊢ iprop(∃ f : Buf (Elt F) (lo c), lo c ↦[rows (dstLo a c) (len a)]{fullShare} f)
      iintro H; iexists f; iexact H
  rw [cut, used_erase]
  iintro ⟨H0, H1, H⟩
  isplitl [H0]; · iapply (cut_w m ρ c 0 0 rfl f); iexact H0
  isplitl [H1]; · iapply (cut_w m ρ c 1 1 rfl f); iexact H1
  iapply hr; iexact H

/-- The landing buffer's two halves are apart. -/
theorem prows_disjoint : Disjoint (prows (168 * (half 0).val) 168) (prows (168 * (half 1).val) 168) :=
  Finset.disjoint_left.mpr fun i h1 h2 => by
    rw [mem_prows] at h1 h2
    rw [show (half 0).val = 0 from rfl] at h1
    rw [show (half 1).val = 1 from rfl] at h2
    omega
/-- They make it up. -/
theorem prows_union : prows (168 * (half 0).val) 168 ∪ prows (168 * (half 1).val) 168 = Finset.univ :=
  Finset.eq_univ_of_forall fun i => by
    have hi : (i 0 : ℕ) < 336 := (i 0).isLt
    rw [Finset.mem_union, mem_prows, mem_prows, show (half 0).val = 0 from rfl, show (half 1).val = 1 from rfl]
    omega

/-- The landing buffer in its two halves. -/
theorem cut_lp (c : Dev nD) (f : Buf (Elt F) (lp c)) :
    (lp c ↦{fullShare} f : sProp 𝕄) = iprop((lp c ↦[prows (168 * (half 0).val) 168]{fullShare} f) ∗ lp c ↦[prows (168 * (half 1).val) 168]{fullShare} f) :=
  two_parts (lp c) prows_disjoint prows_union fullShare f

/-- All that a device's neighbours overwrite on it. -/
theorem cut_junk (c : Dev nD) (f : Buf (Elt F) (lo c)) (g : Buf (Elt F) (lp c)) :
    iprop((lo c ↦{fullShare} f) ∗ lp c ↦{fullShare} g) ⊢ iprop(piece m ρ c (.w 0) ∗ piece m ρ c (.w 1) ∗ bigSep used fun a => junk (F := F) a c) := by
  rw [used_erase, junk_p1 c 0 (by decide), junk_p1 c 1 (by decide), cut_lp]
  iintro ⟨Ho, Hp, Hq⟩
  ihave Ho' := (cut_lo m ρ c f) $$ Ho
  icases Ho' with ⟨H0, H1, H2⟩
  isplitl [H0]; · iexact H0
  isplitl [H1]; · iexact H1
  isplitl [Hp]; · iexists g; iexact Hp
  isplitl [Hq]; · iexists g; iexact Hq
  iexact H2

/-- The rows the first exchange sends in two copies are apart. -/
theorem p1_disjoint (c : Dev nD) : Disjoint (rows (p1Lo c 0) 168) (rows (p1Lo c 1) 168) :=
  Finset.disjoint_left.mpr fun i h1 h2 => by
    rw [mem_rows] at h1 h2
    have h : p1Lo c 1 = p1Lo c 0 + 168 := by rw [← p1Lo_eq, ← p1Lo_eq]; rfl
    omega

/-- The argument's staging: the rows the first exchange lends, and the rest. -/
theorem cut_lx (c : Dev nD) :
    (lx c ↦{fullShare} xstg m ρ c : sProp 𝕄) = iprop(((piece m ρ c (.xs 0) ∗ piece m ρ c (.xs 1))
      ∗ lx c ↦[Finset.univ \ (rows (p1Lo c 0) 168 ∪ rows (p1Lo c 1) 168)]{fullShare.left} xstg m ρ c) ∗ lx c ↦{fullShare.right} xstg m ρ c) := by
  rw [halves (lx c) _ fullShare (xstg m ρ c),
    two_parts (lx c) (I := rows (p1Lo c 0) 168 ∪ rows (p1Lo c 1) 168) (J := Finset.univ \ (rows (p1Lo c 0) 168 ∪ rows (p1Lo c 1) 168))
      Finset.disjoint_sdiff (Finset.union_sdiff_of_subset (Finset.subset_univ _)) fullShare.left,
    two_parts (lx c) (p1_disjoint c) rfl fullShare.left]
  rfl

/-- What a signal to a neighbour carries is this device's landing places for the copies from there. -/
theorem barPay_nbr (c : Dev nD) (d : Dir) : barPay (F := F) d (nbr d c) = bigSep (slotsOf (opp d)) fun a => junk (F := F) a c :=
  bigSep_congr fun a ha => by
    unfold tgt
    rw [(Finset.mem_filter.mp ha).2, nbr_opp_eq, Equiv.symm_apply_apply]

/-- What the neighbours overwrite, by the signal that hands it over. -/
theorem junk_deal (c : Dev nD) : (bigSep used fun a => junk (F := F) a c : sProp 𝕄) = bigSep Finset.univ fun d : Dir => barPay (F := F) d (nbr d c) := by
  rw [bigSep_dir, barPay_nbr, barPay_nbr, barPay_nbr, slots_used, bigSep_union (by decide +kernel), bigSep_union (by decide +kernel)]
  rfl

/-! ## The cells of a device -/

/-- A conjunction over a device's semaphores: barrier, send, receive. -/
theorem bigSep_ck (Φ : CK → sProp 𝕄) : bigSep Finset.univ Φ = iprop(Φ none ∗ (bigSep Finset.univ fun a : Sl => Φ (some (a, false)))
    ∗ bigSep Finset.univ fun a : Sl => Φ (some (a, true))) := by
  have h : (Finset.univ : Finset CK) = insert none (Finset.univ.map Function.Embedding.some) := by
    ext k; cases k <;> simp
  have hb : ∀ a : Sl, bigSep Finset.univ (fun b : Bool => Φ (some (a, b))) = iprop(Φ (some (a, false)) ∗ Φ (some (a, true))) := fun a =>
    bigSep_univ_eq_bigSepL [false, true] (by decide) (by decide) _
  rw [h, bigSep_insert (by simp), bigSep_map, bigSep_univ_prod, ← bigSep_sep', ← bigSep_congr fun a _ => hb a]
  rfl

/-- The cells of the slots that no copy uses are closed at once. -/
theorem close_unused (c : Dev nD) (b : Bool) :
    iprop(recs m ρ K ∗ bigSep (Finset.univ \ used) fun a : Sl => atPos ER (cell c (some (a, b))) 0 ∅ 0)
      ⊢ |={Set.univ}[Idealize.ShloMosaic.frame]=> closed (F := F) c b (Finset.univ \ used) := by
  refine (bigSep_with_persistent (Ψ := fun a => iprop(|={Set.univ}[Idealize.ShloMosaic.frame]=> semVal (cell c (some (a, b))) 0)) fun a ha => ?_).trans (bigSep_fupd _ _)
  iintro ⟨#HR, Hat⟩
  iapply (Rounds.cell_close ER (rd m ρ) (Set.mem_univ (K (c, some (a, b)))) (fun h => h) (R := 0)
    (duties_unused m ρ c a b (Finset.mem_sdiff.mp ha).2)) $$ [Hat]
  isplitr; · iapply (recs_inv m ρ K c (some (a, b))); iexact HR
  iexact Hat

/-- The ghost state of a device at launch: the records, the positions at its cells, the tokens of the duties it pays. -/
def ghost (c : Dev nD) : sProp 𝕄 :=
  iprop(recs m ρ K ∗ (bigSep Finset.univ fun k : CK => atPos ER (cell c k) 0 ∅ 0)
    ∗ (bigSep Finset.univ fun d : Dir => dutyTok ER (barCell (nbr d c)) 0 d)
    ∗ bigSep Finset.univ fun a : Sl => iprop(dutyTok ER (sendCell a c) 0 .p ∗ dutyTok ER (recvCell a (tgt a c)) 0 .p))

/-- The credits of a device at launch. -/
def creds (c : Dev nD) : sProp 𝕄 :=
  iprop(cred (tallyAt (barCell c) () 3) ∗ bigSep used fun a => cred (tallyAt (recvCell a c) () (amt a)))

/-- What is owed at launch: the copies and the three signals. -/
theorem O₀_eq (c : Dev nD) : O₀ c = owedS c used + ∑ d ∈ Finset.univ, owedB c d := by
  have h : (∑ d ∈ Finset.univ, owedB c d) = owedB c .b + owedB c .f + owedB c .p := by
    rw [show (Finset.univ : Finset Dir) = {.b, .f, .p} by decide, Finset.sum_insert (by decide), Finset.sum_insert (by decide), Finset.sum_singleton, add_assoc]
  unfold O₀; rw [h, add_assoc, add_assoc, add_assoc]

/-- A conjunction over all slots: the used ones and the rest. -/
theorem used_part (Φ : Sl → sProp 𝕄) : bigSep Finset.univ Φ = iprop(bigSep used Φ ∗ bigSep (Finset.univ \ used) Φ) :=
  bigSep_sdiff_split (Finset.subset_univ used)

/-- The state the body starts in. -/
theorem opened (c : Dev nD) (S : Waits sig Unit) (f : Buf (Elt F) (lo c)) (g : Buf (Elt F) (lp c)) :
    iprop(ghost m ρ K c ∗ creds (F := F) c ∗ owes (c : Thread nD τ) (O₀ c) S ∗ (lx c ↦{fullShare} xstg m ρ c) ∗ (lo c ↦{fullShare} f) ∗ lp c ↦{fullShare} g)
      ⊢ |={Set.univ}[Idealize.ShloMosaic.frame]=> pre m ρ K c Finset.univ := by
  have hP : pieces m ρ c P₀ = iprop(piece m ρ c (.w 0) ∗ piece m ρ c (.w 1) ∗ piece m ρ c (.xs 0) ∗ piece m ρ c (.xs 1)) := by
    unfold pieces P₀
    rw [bigSep_insert (by decide), bigSep_insert (by decide), bigSep_insert (by decide), bigSep_singleton]
    rfl
  have hD : (bigSep Finset.univ fun d => iprop(dutyTok ER (barCell (nbr d c)) 0 d ∗ barPay (F := F) d (nbr d c)) : sProp 𝕄)
      = iprop((bigSep Finset.univ fun d : Dir => dutyTok ER (barCell (nbr d c)) 0 d) ∗ bigSep Finset.univ fun d : Dir => barPay (F := F) d (nbr d c)) := bigSep_sep' _ _ _
  have hT : (bigSep used fun a => iprop(dutyTok ER (sendCell a c) 0 .p ∗ dutyTok ER (recvCell a (tgt a c)) 0 .p ∗ atPos ER (sendCell a c) 0 ∅ 0) : sProp 𝕄)
      = bigSep used fun a => iprop(iprop(dutyTok ER (sendCell a c) 0 .p ∗ dutyTok ER (recvCell a (tgt a c)) 0 .p) ∗ atPos ER (sendCell a c) 0 ∅ 0) :=
    bigSep_congr fun a _ => sep_shift _ _ _
  have hV : (bigSep used fun a => waiting (F := F) c a true : sProp 𝕄)
      = iprop((bigSep used fun a => atPos ER (cell c (some (a, true))) 0 ∅ 0) ∗ bigSep used fun a => cred (tallyAt (recvCell a c) () (amt a))) := bigSep_sep' _ _ _
  have hT' : (bigSep used fun a => iprop(iprop(dutyTok ER (sendCell a c) 0 .p ∗ dutyTok ER (recvCell a (tgt a c)) 0 .p) ∗ atPos ER (sendCell a c) 0 ∅ 0) : sProp 𝕄)
      = iprop((bigSep used fun a => iprop(dutyTok ER (sendCell a c) 0 .p ∗ dutyTok ER (recvCell a (tgt a c)) 0 .p)) ∗ bigSep used fun a => atPos ER (sendCell a c) 0 ∅ 0) := bigSep_sep' _ _ _
  unfold pre ghost creds
  rw [hP, hD, hT, hT', hV, bigSep_ck, used_part, used_part, used_part, O₀_eq, cut_lx, ← junk_deal]
  iintro ⟨⟨#HR, ⟨Hab, ⟨Has, Has'⟩, Har, Har'⟩, HtB, HtS, -⟩, ⟨HcB, HcS⟩, HO, ⟨⟨⟨Hx0, Hx1⟩, Hxr⟩, Hx⟩, Hlo, Hlp⟩
  ihave Hj := (cut_junk m ρ c f g) $$ [Hlo Hlp]
  · isplitl [Hlo] <;> iassumption
  icases Hj with ⟨Hw0, Hw1, Hj⟩
  imod (close_unused m ρ K c false) $$ [Has'] with HE
  · isplitr; · iexact HR
    iexact Has'
  imod (close_unused m ρ K c true) $$ [Har'] with HD
  · isplitr; · iexact HR
    iexact Har'
  imodintro
  isplitr; · iexact HR
  isplitl [HO]; · iexists S; iexact HO
  isplitl [HtB Hj]; · isplitl [HtB] <;> iassumption
  isplitl [Hab]; · iexact Hab
  isplitl [HcB]; · iexact HcB
  isplitl [HtS Has]
  · isplitl [HtS]
    · iexact HtS
    · iexact Has
  isplitl [Har HcS]
  · isplitl [Har]
    · iexact Har
    · iexact HcS
  isplitl [HD]; · iexact HD
  isplitl [HE]; · iexact HE
  isplitl [Hw0 Hw1 Hx0 Hx1]
  · isplitl [Hw0]; · iexact Hw0
    isplitl [Hw1]; · iexact Hw1
    isplitl [Hx0] <;> iassumption
  isplitl [Hx] <;> iassumption

/-! ## The end -/

/-- What the rows of a slot hold at the end. -/
def finP (a : Sl) : Finset Pc := if a.val < 2 then subP 0 (half a) else dstP a
/-- The pieces a device has at the end. -/
def Pend : Finset Pc := used.biUnion finP ∪ {.xs 0, .xs 1, .pb 0, .pb 1}

/-- A conjunction over a disjoint union. -/
theorem bigSep_parts {I J : Type} [DecidableEq I] [DecidableEq J] (s : Finset J) (t : J → Finset I) (Φ : I → sProp 𝕄)
    (h : ∀ j ∈ s, ∀ j' ∈ s, j ≠ j' → Disjoint (t j) (t j')) : bigSep (s.biUnion t) Φ = bigSep s fun j => bigSep (t j) Φ := by
  induction s using Finset.induction_on with
  | empty => rw [Finset.biUnion_empty, bigSep_empty, bigSep_empty]
  | insert j s hj ih =>
    rw [Finset.biUnion_insert, bigSep_insert hj, ← ih fun a ha b hb => h a (Finset.mem_insert_of_mem ha) b (Finset.mem_insert_of_mem hb)]
    refine bigSep_union ((Finset.disjoint_biUnion_right _ _ _).mpr fun b hb => h j (Finset.mem_insert_self _ _) b (Finset.mem_insert_of_mem hb) ?_)
    rintro rfl; exact hj hb

/-- The pieces held at the end over one landing place, as one assertion. -/
theorem fin_out (c : Dev nD) (a : Sl) : bigSep (finP a) (piece m ρ c) = (lo c ↦[rows (dstLo a c) (len a)]{fullShare} res m ρ c : sProp 𝕄) := by
  by_cases h : a.val < 2
  · have h0 : ∀ a : Sl, a.val < 2 → dstE a = 0 := by decide +kernel
    unfold finP dstLo len
    rw [if_pos h, if_pos (by omega), if_pos (by omega), h0 a h]
    exact subP_eq m ρ c 0 (half a)
  · unfold finP; rw [if_neg h]; exact dst_out m ρ c a (by omega)

/-- Everything of a device is back: the result, the argument, the landing buffer. -/
theorem joined (c : Dev nD) : iprop(pieces m ρ c Pend ∗ restX m ρ c)
    ⊢ iprop((lx c ↦{fullShare} xstg m ρ c) ∗ (lo c ↦{fullShare} res m ρ c) ∗ lp c ↦{fullShare} got m ρ c) := by
  have hP : pieces m ρ c Pend = iprop((lo c ↦{fullShare} res m ρ c) ∗ piece m ρ c (.xs 0) ∗ piece m ρ c (.xs 1) ∗ (lp c ↦[prows (168 * (half 0).val) 168]{fullShare} got m ρ c) ∗ lp c ↦[prows (168 * (half 1).val) 168]{fullShare} got m ρ c) := by
    unfold pieces Pend
    rw [bigSep_union (by decide +kernel), bigSep_parts used finP _ (by decide +kernel), bigSep_congr fun a _ => fin_out m ρ c a, ← cut,
      bigSep_insert (by decide), bigSep_insert (by decide), bigSep_insert (by decide), bigSep_singleton]
    rfl
  rw [hP, cut_lx, cut_lp]
  iintro ⟨⟨Ho, Hx0, Hx1, Hp0, Hp1⟩, Hx, Hxr⟩
  isplitl [Hx0 Hx1 Hx Hxr]
  · isplitr [Hx]
    · isplitl [Hx0 Hx1]
      · isplitl [Hx0] <;> iassumption
      · iexact Hxr
    · iexact Hx
  isplitl [Ho]; · iexact Ho
  isplitl [Hp0]
  · iexact Hp0
  · iexact Hp1

/-- The state the body ends in. -/
theorem ended (c : Dev nD) {U V W : Finset Sl} {P : Finset Pc} (hU : U = ∅) (hV : V = ∅) (hW : W = ∅) (hP : Pend ⊆ P) :
    held m ρ K c U V W P ⊢ iprop((∃ S, owes (c : Thread nD τ) 0 S) ∗ (bigSep Finset.univ fun k : CK => semVal (cell c k) 0)
      ∗ (lx c ↦{fullShare} xstg m ρ c) ∗ (lo c ↦{fullShare} res m ρ c) ∗ lp c ↦{fullShare} got m ρ c) := by
  subst hU hV hW
  unfold held closed
  rw [bigSep_ck, Finset.union_empty, Finset.sdiff_empty, show owedS c ∅ = 0 from Finset.sum_empty]
  iintro ⟨-, HO, -, -, -, HD, HE, HB, HP, HX⟩
  ihave HP' := (pieces_take m ρ c hP) $$ HP
  icases HP' with ⟨HP, -⟩
  isplitl [HO]; · iexact HO
  isplitl [HD HE HB]
  · isplitl [HB]; · iexact HB
    isplitl [HE] <;> iassumption
  iapply (joined m ρ c)
  isplitl [HP] <;> iassumption

end Cert.Planes

end
-- ==== Proof.Body.lean ====
/-
A device's body, part by part: each part takes the state of one line of the table below to the next.
-/
module

public import proofs.«01_k».proof.Proof.Start
public import Idealize.ShloMosaic.Lib.Pipeline.Value

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The states -/

/-- The slots still to be issued, to be received, issued and not yet waited for; the pieces. -/
structure St where
  U : Finset Sl
  V : Finset Sl
  W : Finset Sl
  P : Finset Pc
/-- A slot's copy is issued; -/
def St.send (S : St) (a : Sl) : St := ⟨S.U.erase a, S.V, insert a S.W, S.P \ srcP a⟩
/-- received; -/
def St.recv (S : St) (a : Sl) : St := ⟨S.U, S.V.erase a, S.W, dstP a ∪ S.P⟩
/-- waited for on the sending side. -/
def St.sent (S : St) (a : Sl) : St := ⟨S.U, S.V, S.W.erase a, srcP a ∪ S.P⟩
/-- Half `s` of the own part is computed. -/
def St.own (S : St) (s : Fin 2) : St := ⟨S.U, S.V, S.W, insert (Pc.pb s) (subP 0 s) ∪ (S.P \ {Pc.w s, Pc.pb s})⟩

/-- The states between the parts, in program order. -/
def S₂ : St := ⟨used, used, ∅, P₀⟩
/-- After the part where copy 0 is issued and copy 1 is issued. -/
def S3 : St := (S₂.send 0).send 1
/-- After the part where copy 0 from a neighbour is awaited and half 0 of the own part is computed. -/
def S4 : St := (S3.recv 0).own 0
/-- After the part where copy 2 is issued. -/
def S5 : St := S4.send 2
/-- After the part where copy 10 is issued, copy 1 from a neighbour is awaited and half 1 of the own part is computed. -/
def S6 : St := ((S5.send 10).recv 1).own 1
/-- After the part where copy 3 is issued. -/
def S7 : St := S6.send 3
/-- After the part where copy 11 is issued, copy 18 is issued, copy 0's reading is awaited and copy 1's reading is awaited. -/
def S8 : St := (((S7.send 11).send 18).sent 0).sent 1
/-- After the part where copy 2 from a neighbour is awaited and copy 4 is issued. -/
def S9 : St := (S8.recv 2).send 4
/-- After the part where copy 3 from a neighbour is awaited. -/
def S10 : St := S9.recv 3
/-- After the part where copy 5 is issued and copy 19 is issued. -/
def S11 : St := (S10.send 5).send 19
/-- After the part where copy 10 from a neighbour is awaited and copy 12 is issued. -/
def S12 : St := (S11.recv 10).send 12
/-- After the part where copy 11 from a neighbour is awaited and copy 13 is issued. -/
def S13 : St := (S12.recv 11).send 13
/-- After the part where copy 20 is issued, copy 2's reading is awaited and copy 3's reading is awaited. -/
def S14 : St := ((S13.send 20).sent 2).sent 3
/-- After the part where copy 10's reading is awaited, copy 11's reading is awaited and copy 4 from a neighbour is awaited. -/
def S15 : St := ((S14.sent 10).sent 11).recv 4
/-- After the part where copy 6 is issued and copy 5 from a neighbour is awaited. -/
def S16 : St := (S15.send 6).recv 5
/-- After the part where copy 7 is issued. -/
def S17 : St := S16.send 7
/-- After the part where copy 21 is issued and copy 12 from a neighbour is awaited. -/
def S18 : St := (S17.send 21).recv 12
/-- After the part where copy 14 is issued and copy 13 from a neighbour is awaited. -/
def S19 : St := (S18.send 14).recv 13
/-- After the part where copy 15 is issued, copy 22 is issued and copy 4's reading is awaited. -/
def S20 : St := ((S19.send 15).send 22).sent 4
/-- After the part where copy 5's reading is awaited, copy 12's reading is awaited, copy 13's reading is awaited and copy 6 from a neighbour is awaited. -/
def S21 : St := (((S20.sent 5).sent 12).sent 13).recv 6
/-- After the part where copy 8 is issued and copy 7 from a neighbour is awaited. -/
def S22 : St := (S21.send 8).recv 7
/-- After the part where copy 23 is issued and copy 14 from a neighbour is awaited. -/
def S23 : St := (S22.send 23).recv 14
/-- After the part where copy 15 from a neighbour is awaited and copy 17 is issued. -/
def S24 : St := (S23.recv 15).send 17
/-- After the part where copy 24 is issued, copy 6's reading is awaited and copy 7's reading is awaited. -/
def S25 : St := ((S24.send 24).sent 6).sent 7
/-- After the part where copy 14's reading is awaited, copy 15's reading is awaited, copy 8 from a neighbour is awaited and copy 17 from a neighbour is awaited. -/
def S26 : St := (((S25.sent 14).sent 15).recv 8).recv 17
/-- After the part where copy 8's reading is awaited, copy 17's reading is awaited and copy 25 is issued. -/
def S27 : St := ((S26.sent 8).sent 17).send 25
/-- After the part where copy 18 from a neighbour is awaited, copy 18's reading is awaited, copy 19 from a neighbour is awaited and copy 19's reading is awaited. -/
def S28 : St := (((S27.recv 18).sent 18).recv 19).sent 19
/-- After the part where copy 20 from a neighbour is awaited, copy 20's reading is awaited, copy 21 from a neighbour is awaited and copy 21's reading is awaited. -/
def S29 : St := (((S28.recv 20).sent 20).recv 21).sent 21
/-- After the part where copy 22 from a neighbour is awaited, copy 22's reading is awaited, copy 23 from a neighbour is awaited and copy 23's reading is awaited. -/
def S30 : St := (((S29.recv 22).sent 22).recv 23).sent 23
/-- After the part where copy 24 from a neighbour is awaited and copy 24's reading is awaited. -/
def S31 : St := (S30.recv 24).sent 24
/-- After the part where copy 25 from a neighbour is awaited and copy 25's reading is awaited. -/
def S32 : St := (S31.recv 25).sent 25

/-- A device in a state. -/
abbrev hold (c : Dev nD) (S : St) : sProp 𝕄 := held m ρ K c S.U S.V S.W S.P

/-- A program of a device. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program that returns at once keeps what it holds. -/
theorem runs_ret {α : Type} (c : Dev nD) (a : α) (R : sProp 𝕄) : R ⊢ runs c (.ret a) fun _ => R := by
  unfold runs
  rw [wp_ret]
  exact fupd_intro

/-- One part after another. -/
theorem runs_seq {α β : Type} {c : Dev nD} {p : Prog (TpuEff nD τ sig (Elt F) Λ₀ .tc) α} {k : α → Prog (TpuEff nD τ sig (Elt F) Λ₀ .tc) β}
    {R R' : sProp 𝕄} {Q : β → sProp 𝕄} (hp : R ⊢ runs c p fun _ => R') (hk : ∀ a, R' ⊢ runs c (k a) Q) : R ⊢ runs c (p >>= k) Q := by
  show R ⊢ wp frame (wpE (defs₀ (F := F)) 𝒱₀ (c : Thread nD τ) none) Set.univ (p >>= k) Q
  rw [wp_bind]
  exact hp.trans (wp_mono _ _ _ hk)

/-- The first sum the body stores is the plain sum. -/
theorem pay1_eq (a b : Vec F S168x1024 .f32) : k0_pay1 a b = addf a b := by unfold k0_pay1; rw [shapeCast_self]
/-- So is the second. -/
theorem pay2_eq (a b : Vec F S168x1024 .f32) : k0_pay2 a b = addf a b := by unfold k0_pay2; rw [shapeCast_self]

/-! ## The parts -/

/-- Part 3 of the body: the handshake ends and the two copies of the first exchange are issued. -/
theorem part3 (c : Dev nD) (v5 : BitVec 32) (v8 : BitVec 32) (v9 : BitVec 32) (v12 : BitVec 32) (v44 : BitVec 32) (v47 : BitVec 32) (v65 : BitVec 32) :
    pre m ρ K c {.b} ⊢ runs c (k0_part3 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v44 v47 (SemArray.scalar (sig.barrier 0 rfl)) v65) fun _ => hold m ρ K c S3 := by
  rw [k0_part3_eq_skeleton]; unfold k0_part3_skel runs
  simp only [semSignalWord, semWaitWord, Prog.lift, Prog.bind_op, Prog.bind_ret, Prog.pure_eq_ret]
  refine step_signal m ρ K .b (by decide +kernel) (dev3 c) (by decide) rfl ?_
  refine step_bar m ρ K (by decide +kernel) (by decide) rfl ?_
  refine step_p1 m ρ K 0 (by decide +kernel) (dev4 c) (by decide +kernel) (by decide +kernel) (by decide +kernel) (by decide +kernel) rfl rfl (off1_0 c) rfl rfl ?_
  refine step_p1 m ρ K 1 (by decide +kernel) (dev5 c) (by decide +kernel) (by decide +kernel) (by decide +kernel) (by decide +kernel) rfl rfl (off1_1 c) rfl rfl ?_
  exact runs_ret c _ _

/-- Part 4 of the body: copy 0 from a neighbour is awaited and half 0 of the own part is computed. -/
theorem part4 (c : Dev nD) (v5 : BitVec 32) (v8 : BitVec 32) (v9 : BitVec 32) (v12 : BitVec 32) (v45 : BitVec 32) (v68 : BitVec 32) :
    hold m ρ K c S3 ⊢ runs c (k0_part4 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v45 v68) fun _ => hold m ρ K c S4 := by
  rw [k0_part4_eq_skeleton]; unfold k0_part4_skel runs
  simp only [Prog.lift, Prog.bind_op, Prog.bind_ret, Prog.pure_eq_ret]
  refine step_recv m ρ K 0 (by decide +kernel) (by decide +kernel) (by decide +kernel) (by decide +kernel) rfl rfl ?_
  refine step_own m ρ K 0 (by decide +kernel) (by decide +kernel) (by decide +kernel) (off2_0 c) rfl pay1_eq ?_
  exact runs_ret c _ _

/-- Part 5 of the body: copy 2 is issued. -/
theorem part5 (c : Dev nD) (v2 : BitVec 32) (v12 : BitVec 32) (v25 : BitVec 32) (v28 : BitVec 32) (v41 : BitVec 32) (v44 : BitVec 32) (v45 : BitVec 32) :
    hold m ρ K c S4 ⊢ runs c (k0_part5 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v41 v44 v45) fun _ => hold m ρ K c S5 := by
  rw [k0_part5_eq_skeleton]; unfold k0_part5_skel runs
  simp only [Prog.lift, Prog.bind_op, Prog.bind_ret, Prog.pure_eq_ret]
  refine step_out m ρ K 2 (by decide +kernel) (dev6 c) (by decide +kernel) (by decide +kernel) (by decide +kernel) (by decide +kernel) rfl rfl rfl (off3_2 c) rfl ?_
  exact runs_ret c _ _

/-- Part 6 of the body: copy 10 is issued, copy 1 from a neighbour is awaited and half 1 of the own part is computed. -/
theorem part6 (c : Dev nD) (v5 : BitVec 32) (v8 : BitVec 32) (v9 : BitVec 32) (v12 : BitVec 32) (v45 : BitVec 32) (v68 : BitVec 32) :
    hold m ρ K c S5 ⊢ runs c (k0_part6 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v45 v68) fun _ => hold m ρ K c S6 := by
  rw [k0_part6_eq_skeleton]; unfold k0_part6_skel runs
  simp only [Prog.lift, Prog.bind_op, Prog.bind_ret, Prog.pure_eq_ret]
  refine step_out m ρ K 10 (by decide +kernel) (dev7 c) (by decide +kernel) (by decide +kernel) (by decide +kernel) (by decide +kernel) rfl rfl rfl (off3_10 c) rfl ?_
  refine step_recv m ρ K 1 (by decide +kernel) (by decide +kernel) (by decide +kernel) (by decide +kernel) rfl rfl ?_
  refine step_own m ρ K 1 (by decide +kernel) (by decide +kernel) (by decide +kernel) (off2_1 c) rfl pay2_eq ?_
  exact runs_ret c _ _

/-- Part 7 of the body: copy 3 is issued. -/
theorem part7 (c : Dev nD) (v2 : BitVec 32) (v12 : BitVec 32) (v25 : BitVec 32) (v28 : BitVec 32) (v41 : BitVec 32) (v45 : BitVec 32) (v194 : BitVec 32) (v199 : BitVec 1) (v200 : BitVec 32) :
    hold m ρ K c S6 ⊢ runs c (k0_part7 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v41 v45 v194 v199 v200) fun _ => hold m ρ K c S7 := by
  rw [k0_part7_eq_skeleton]; unfold k0_part7_skel runs
  simp only [Prog.lift, Prog.bind_op, Prog.bind_ret, Prog.pure_eq_ret]
  refine step_out m ρ K 3 (by decide +kernel) (dev8 c) (by decide +kernel) (by decide +kernel) (by decide +kernel) (by decide +kernel) rfl rfl rfl (off3_3 c) rfl ?_
  exact runs_ret c _ _

/-- Part 8 of the body: copy 11 is issued, copy 18 is issued, copy 0's reading is awaited and copy 1's reading is awaited. -/
theorem part8 (c : Dev nD) (v5 : BitVec 32) (v8 : BitVec 32) (v9 : BitVec 32) (v12 : BitVec 32) (v44 : BitVec 32) (v48 : BitVec 32) (v234 : BitVec 32) (c1_i32_156 : BitVec 32) :
    hold m ρ K c S7 ⊢ runs c (k0_part8 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v44 v48 v234 c1_i32_156) fun _ => hold m ρ K c S8 := by
  rw [k0_part8_eq_skeleton]; unfold k0_part8_skel runs
  simp only [Prog.lift, Prog.bind_op, Prog.bind_ret, Prog.pure_eq_ret]
  refine step_out m ρ K 11 (by decide +kernel) (dev9 c) (by decide +kernel) (by decide +kernel) (by decide +kernel) (by decide +kernel) rfl rfl rfl (off3_11 c) rfl ?_
  refine step_out m ρ K 18 (by decide +kernel) (dev10 c) (by decide +kernel) (by decide +kernel) (by decide +kernel) (by decide +kernel) rfl rfl rfl (off4_18 c) rfl ?_
  refine step_sent m ρ K 0 (by decide +kernel) (by decide +kernel) (by decide +kernel) (by decide +kernel) rfl rfl ?_
  refine step_sent m ρ K 1 (by decide +kernel) (by decide +kernel) (by decide +kernel) (by decide +kernel) rfl rfl ?_
  exact runs_ret c _ _

/-- Part 9 of the body: copy 2 from a neighbour is awaited and copy 4 is issued. -/
theorem part9 (c : Dev nD) (v2 : BitVec 32) (v12 : BitVec 32) (v25 : BitVec 32) (v28 : BitVec 32) (v45 : BitVec 32) (c8_i32_182 : BitVec 32) :
    hold m ρ K c S8 ⊢ runs c (k0_part9 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v45 c8_i32_182) fun _ => hold m ρ K c S9 := by
  rw [k0_part9_eq_skeleton]; unfold k0_part9_skel runs
  simp only [Prog.lift, Prog.bind_op, Prog.bind_ret, Prog.pure_eq_ret]
  refine step_recv m ρ K 2 (by decide +kernel) (by decide +kernel) (by decide +kernel) (by decide +kernel) rfl rfl ?_
  refine step_out m ρ K 4 (by decide +kernel) (dev11 c) (by decide +kernel) (by decide +kernel) (by decide +kernel) (by decide +kernel) rfl rfl rfl (off3_4 c) rfl ?_
  exact runs_ret c _ _

/-- Part 10 of the body: copy 3 from a neighbour is awaited. -/
theorem part10 (c : Dev nD) (v2 : BitVec 32) (v12 : BitVec 32) (v25 : BitVec 32) (v28 : BitVec 32) (v45 : BitVec 32) :
    hold m ρ K c S9 ⊢ runs c (k0_part10 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v45) fun _ => hold m ρ K c S10 := by
  rw [k0_part10_eq_skeleton]; unfold k0_part10_skel runs
  simp only [Prog.lift, Prog.bind_op, Prog.bind_ret, Prog.pure_eq_ret]
  refine step_recv m ρ K 3 (by decide +kernel) (by decide +kernel) (by decide +kernel) (by decide +kernel) rfl rfl ?_
  exact runs_ret c _ _

/-- Part 11 of the body: copy 5 is issued and copy 19 is issued. -/
theorem part11 (c : Dev nD) (v2 : BitVec 32) (v5 : BitVec 32) (v8 : BitVec 32) (v9 : BitVec 32) (v12 : BitVec 32) (v41 : BitVec 32) (v44 : BitVec 32) (v48 : BitVec 32) :
    hold m ρ K c S10 ⊢ runs c (k0_part11 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v5 v8 v9 v12 v41 v44 v48) fun _ => hold m ρ K c S11 := by
  rw [k0_part11_eq_skeleton]; unfold k0_part11_skel runs
  simp only [Prog.lift, Prog.bind_op, Prog.bind_ret, Prog.pure_eq_ret]
  refine step_out m ρ K 5 (by decide +kernel) (dev12 c) (by decide +kernel) (by decide +kernel) (by decide +kernel) (by decide +kernel) rfl rfl rfl (off3_5 c) rfl ?_
  refine step_out m ρ K 19 (by decide +kernel) (dev13 c) (by decide +kernel) (by decide +kernel) (by decide +kernel) (by decide +kernel) rfl rfl rfl (off5_19 c) rfl ?_
  exact runs_ret c _ _

/-- Part 12 of the body: copy 10 from a neighbour is awaited and copy 12 is issued. -/
theorem part12 (c : Dev nD) (v2 : BitVec 32) (v12 : BitVec 32) (v41 : BitVec 32) (v44 : BitVec 32) (v45 : BitVec 32) :
    hold m ρ K c S11 ⊢ runs c (k0_part12 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v41 v44 v45) fun _ => hold m ρ K c S12 := by
  rw [k0_part12_eq_skeleton]; unfold k0_part12_skel runs
  simp only [Prog.lift, Prog.bind_op, Prog.bind_ret, Prog.pure_eq_ret]
  refine step_recv m ρ K 10 (by decide +kernel) (by decide +kernel) (by decide +kernel) (by decide +kernel) rfl rfl ?_
  refine step_out m ρ K 12 (by decide +kernel) (dev14 c) (by decide +kernel) (by decide +kernel) (by decide +kernel) (by decide +kernel) rfl rfl rfl (off3_12 c) rfl ?_
  exact runs_ret c _ _

/-- Part 13 of the body: copy 11 from a neighbour is awaited and copy 13 is issued. -/
theorem part13 (c : Dev nD) (v2 : BitVec 32) (v12 : BitVec 32) (v41 : BitVec 32) (v44 : BitVec 32) (v45 : BitVec 32) :
    hold m ρ K c S12 ⊢ runs c (k0_part13 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v41 v44 v45) fun _ => hold m ρ K c S13 := by
  rw [k0_part13_eq_skeleton]; unfold k0_part13_skel runs
  simp only [Prog.lift, Prog.bind_op, Prog.bind_ret, Prog.pure_eq_ret]
  refine step_recv m ρ K 11 (by decide +kernel) (by decide +kernel) (by decide +kernel) (by decide +kernel) rfl rfl ?_
  refine step_out m ρ K 13 (by decide +kernel) (dev15 c) (by decide +kernel) (by decide +kernel) (by decide +kernel) (by decide +kernel) rfl rfl rfl (off3_13 c) rfl ?_
  exact runs_ret c _ _

/-- Part 14 of the body: copy 20 is issued, copy 2's reading is awaited and copy 3's reading is awaited. -/
theorem part14 (c : Dev nD) (v5 : BitVec 32) (v8 : BitVec 32) (v9 : BitVec 32) (v48 : BitVec 32) (v436 : BitVec 32) (v437 : BitVec 32) (c0_i32_299 : BitVec 32) :
    hold m ρ K c S13 ⊢ runs c (k0_part14 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v48 v436 v437 c0_i32_299) fun _ => hold m ρ K c S14 := by
  rw [k0_part14_eq_skeleton]; unfold k0_part14_skel runs
  simp only [Prog.lift, Prog.bind_op, Prog.bind_ret, Prog.pure_eq_ret]
  refine step_out m ρ K 20 (by decide +kernel) (dev16 c) (by decide +kernel) (by decide +kernel) (by decide +kernel) (by decide +kernel) rfl rfl rfl (off6_20 c) rfl ?_
  refine step_sent m ρ K 2 (by decide +kernel) (by decide +kernel) (by decide +kernel) (by decide +kernel) rfl rfl ?_
  refine step_sent m ρ K 3 (by decide +kernel) (by decide +kernel) (by decide +kernel) (by decide +kernel) rfl rfl ?_
  exact runs_ret c _ _

/-- Part 15 of the body: copy 10's reading is awaited, copy 11's reading is awaited and copy 4 from a neighbour is awaited. -/
theorem part15 (c : Dev nD) (v2 : BitVec 32) (v12 : BitVec 32) (v25 : BitVec 32) (v28 : BitVec 32) (v45 : BitVec 32) :
    hold m ρ K c S14 ⊢ runs c (k0_part15 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v45) fun _ => hold m ρ K c S15 := by
  rw [k0_part15_eq_skeleton]; unfold k0_part15_skel runs
  simp only [Prog.lift, Prog.bind_op, Prog.bind_ret, Prog.pure_eq_ret]
  refine step_sent m ρ K 10 (by decide +kernel) (by decide +kernel) (by decide +kernel) (by decide +kernel) rfl rfl ?_
  refine step_sent m ρ K 11 (by decide +kernel) (by decide +kernel) (by decide +kernel) (by decide +kernel) rfl rfl ?_
  refine step_recv m ρ K 4 (by decide +kernel) (by decide +kernel) (by decide +kernel) (by decide +kernel) rfl rfl ?_
  exact runs_ret c _ _

/-- Part 16 of the body: copy 6 is issued and copy 5 from a neighbour is awaited. -/
theorem part16 (c : Dev nD) (v2 : BitVec 32) (v12 : BitVec 32) (v25 : BitVec 32) (v28 : BitVec 32) (v45 : BitVec 32) (v499 : BitVec 32) (c0_i32_350 : BitVec 32) :
    hold m ρ K c S15 ⊢ runs c (k0_part16 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v45 v499 c0_i32_350) fun _ => hold m ρ K c S16 := by
  rw [k0_part16_eq_skeleton]; unfold k0_part16_skel runs
  simp only [Prog.lift, Prog.bind_op, Prog.bind_ret, Prog.pure_eq_ret]
  refine step_out m ρ K 6 (by decide +kernel) (dev17 c) (by decide +kernel) (by decide +kernel) (by decide +kernel) (by decide +kernel) rfl rfl rfl (off3_6 c) rfl ?_
  refine step_recv m ρ K 5 (by decide +kernel) (by decide +kernel) (by decide +kernel) (by decide +kernel) rfl rfl ?_
  exact runs_ret c _ _

/-- Part 17 of the body: copy 7 is issued. -/
theorem part17 (c : Dev nD) (v2 : BitVec 32) (v5 : BitVec 32) (v8 : BitVec 32) (v9 : BitVec 32) (v12 : BitVec 32) (v25 : BitVec 32) (v28 : BitVec 32) (v48 : BitVec 32) :
    hold m ρ K c S16 ⊢ runs c (k0_part17 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v5 v8 v9 v12 v25 v28 v48) fun _ => hold m ρ K c S17 := by
  rw [k0_part17_eq_skeleton]; unfold k0_part17_skel runs
  simp only [Prog.lift, Prog.bind_op, Prog.bind_ret, Prog.pure_eq_ret]
  refine step_out m ρ K 7 (by decide +kernel) (dev18 c) (by decide +kernel) (by decide +kernel) (by decide +kernel) (by decide +kernel) rfl rfl rfl (off3_7 c) rfl ?_
  exact runs_ret c _ _

/-- Part 18 of the body: copy 21 is issued and copy 12 from a neighbour is awaited. -/
theorem part18 (c : Dev nD) (v2 : BitVec 32) (v12 : BitVec 32) (v41 : BitVec 32) (v44 : BitVec 32) (v45 : BitVec 32) :
    hold m ρ K c S17 ⊢ runs c (k0_part18 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v41 v44 v45) fun _ => hold m ρ K c S18 := by
  rw [k0_part18_eq_skeleton]; unfold k0_part18_skel runs
  simp only [Prog.lift, Prog.bind_op, Prog.bind_ret, Prog.pure_eq_ret]
  refine step_out m ρ K 21 (by decide +kernel) (dev19 c) (by decide +kernel) (by decide +kernel) (by decide +kernel) (by decide +kernel) rfl rfl rfl (off5_21 c) rfl ?_
  refine step_recv m ρ K 12 (by decide +kernel) (by decide +kernel) (by decide +kernel) (by decide +kernel) rfl rfl ?_
  exact runs_ret c _ _

/-- Part 19 of the body: copy 14 is issued and copy 13 from a neighbour is awaited. -/
theorem part19 (c : Dev nD) (v2 : BitVec 32) (v12 : BitVec 32) (v41 : BitVec 32) (v44 : BitVec 32) (v45 : BitVec 32) :
    hold m ρ K c S18 ⊢ runs c (k0_part19 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v41 v44 v45) fun _ => hold m ρ K c S19 := by
  rw [k0_part19_eq_skeleton]; unfold k0_part19_skel runs
  simp only [Prog.lift, Prog.bind_op, Prog.bind_ret, Prog.pure_eq_ret]
  refine step_out m ρ K 14 (by decide +kernel) (dev20 c) (by decide +kernel) (by decide +kernel) (by decide +kernel) (by decide +kernel) rfl rfl rfl (off3_14 c) rfl ?_
  refine step_recv m ρ K 13 (by decide +kernel) (by decide +kernel) (by decide +kernel) (by decide +kernel) rfl rfl ?_
  exact runs_ret c _ _

/-- Part 20 of the body: copy 15 is issued, copy 22 is issued and copy 4's reading is awaited. -/
theorem part20 (c : Dev nD) (v5 : BitVec 32) (v8 : BitVec 32) (v9 : BitVec 32) (v12 : BitVec 32) (v48 : BitVec 32) :
    hold m ρ K c S19 ⊢ runs c (k0_part20 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v48) fun _ => hold m ρ K c S20 := by
  rw [k0_part20_eq_skeleton]; unfold k0_part20_skel runs
  simp only [Prog.lift, Prog.bind_op, Prog.bind_ret, Prog.pure_eq_ret]
  refine step_out m ρ K 15 (by decide +kernel) (dev21 c) (by decide +kernel) (by decide +kernel) (by decide +kernel) (by decide +kernel) rfl rfl rfl (off3_15 c) rfl ?_
  refine step_out m ρ K 22 (by decide +kernel) (dev22 c) (by decide +kernel) (by decide +kernel) (by decide +kernel) (by decide +kernel) rfl rfl rfl (off6_22 c) rfl ?_
  refine step_sent m ρ K 4 (by decide +kernel) (by decide +kernel) (by decide +kernel) (by decide +kernel) rfl rfl ?_
  exact runs_ret c _ _

/-- Part 21 of the body: copy 5's reading is awaited, copy 12's reading is awaited, copy 13's reading is awaited and copy 6 from a neighbour is awaited. -/
theorem part21 (c : Dev nD) (v2 : BitVec 32) (v12 : BitVec 32) (v25 : BitVec 32) (v28 : BitVec 32) :
    hold m ρ K c S20 ⊢ runs c (k0_part21 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28) fun _ => hold m ρ K c S21 := by
  rw [k0_part21_eq_skeleton]; unfold k0_part21_skel runs
  simp only [Prog.lift, Prog.bind_op, Prog.bind_ret, Prog.pure_eq_ret]
  refine step_sent m ρ K 5 (by decide +kernel) (by decide +kernel) (by decide +kernel) (by decide +kernel) rfl rfl ?_
  refine step_sent m ρ K 12 (by decide +kernel) (by decide +kernel) (by decide +kernel) (by decide +kernel) rfl rfl ?_
  refine step_sent m ρ K 13 (by decide +kernel) (by decide +kernel) (by decide +kernel) (by decide +kernel) rfl rfl ?_
  refine step_recv m ρ K 6 (by decide +kernel) (by decide +kernel) (by decide +kernel) (by decide +kernel) rfl rfl ?_
  exact runs_ret c _ _

/-- Part 22 of the body: copy 8 is issued and copy 7 from a neighbour is awaited. -/
theorem part22 (c : Dev nD) (v2 : BitVec 32) (v12 : BitVec 32) (v25 : BitVec 32) (v28 : BitVec 32) (v45 : BitVec 32) (v697 : BitVec 32) (v698 : BitVec 32) (v699 : BitVec 1) (v700 : BitVec 1) :
    hold m ρ K c S21 ⊢ runs c (k0_part22 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v25 v28 v45 v697 v698 v699 v700) fun _ => hold m ρ K c S22 := by
  rw [k0_part22_eq_skeleton]; unfold k0_part22_skel runs
  simp only [Prog.lift, Prog.bind_op, Prog.bind_ret, Prog.pure_eq_ret]
  refine step_out m ρ K 8 (by decide +kernel) (dev23 c) (by decide +kernel) (by decide +kernel) (by decide +kernel) (by decide +kernel) rfl rfl rfl (off3_8 c) rfl ?_
  refine step_recv m ρ K 7 (by decide +kernel) (by decide +kernel) (by decide +kernel) (by decide +kernel) rfl rfl ?_
  exact runs_ret c _ _

/-- Part 23 of the body: copy 23 is issued and copy 14 from a neighbour is awaited. -/
theorem part23 (c : Dev nD) (v2 : BitVec 32) (v5 : BitVec 32) (v8 : BitVec 32) (v9 : BitVec 32) (v41 : BitVec 32) (v44 : BitVec 32) (v48 : BitVec 32) (v733 : BitVec 32) (v734 : BitVec 32) (c0_i32_516 : BitVec 32) :
    hold m ρ K c S22 ⊢ runs c (k0_part23 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v5 v8 v9 v41 v44 v48 v733 v734 c0_i32_516) fun _ => hold m ρ K c S23 := by
  rw [k0_part23_eq_skeleton]; unfold k0_part23_skel runs
  simp only [Prog.lift, Prog.bind_op, Prog.bind_ret, Prog.pure_eq_ret]
  refine step_out m ρ K 23 (by decide +kernel) (dev24 c) (by decide +kernel) (by decide +kernel) (by decide +kernel) (by decide +kernel) rfl rfl rfl (off5_23 c) rfl ?_
  refine step_recv m ρ K 14 (by decide +kernel) (by decide +kernel) (by decide +kernel) (by decide +kernel) rfl rfl ?_
  exact runs_ret c _ _

/-- Part 24 of the body: copy 15 from a neighbour is awaited and copy 17 is issued. -/
theorem part24 (c : Dev nD) (v2 : BitVec 32) (v12 : BitVec 32) (v41 : BitVec 32) (v44 : BitVec 32) (v45 : BitVec 32) (v767 : BitVec 32) (v768 : BitVec 32) :
    hold m ρ K c S23 ⊢ runs c (k0_part24 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v12 v41 v44 v45 v767 v768) fun _ => hold m ρ K c S24 := by
  rw [k0_part24_eq_skeleton]; unfold k0_part24_skel runs
  simp only [Prog.lift, Prog.bind_op, Prog.bind_ret, Prog.pure_eq_ret]
  refine step_recv m ρ K 15 (by decide +kernel) (by decide +kernel) (by decide +kernel) (by decide +kernel) rfl rfl ?_
  refine step_out m ρ K 17 (by decide +kernel) (dev25 c) (by decide +kernel) (by decide +kernel) (by decide +kernel) (by decide +kernel) rfl rfl rfl (off3_17 c) rfl ?_
  exact runs_ret c _ _

/-- Part 25 of the body: copy 24 is issued, copy 6's reading is awaited and copy 7's reading is awaited. -/
theorem part25 (c : Dev nD) (v5 : BitVec 32) (v8 : BitVec 32) (v9 : BitVec 32) (v48 : BitVec 32) (v802 : BitVec 32) (c8_i32_562 : BitVec 32) (v803 : BitVec 1) :
    hold m ρ K c S24 ⊢ runs c (k0_part25 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v48 v802 c8_i32_562 v803) fun _ => hold m ρ K c S25 := by
  rw [k0_part25_eq_skeleton]; unfold k0_part25_skel runs
  simp only [Prog.lift, Prog.bind_op, Prog.bind_ret, Prog.pure_eq_ret]
  refine step_out m ρ K 24 (by decide +kernel) (dev26 c) (by decide +kernel) (by decide +kernel) (by decide +kernel) (by decide +kernel) rfl rfl rfl (off6_24 c) rfl ?_
  refine step_sent m ρ K 6 (by decide +kernel) (by decide +kernel) (by decide +kernel) (by decide +kernel) rfl rfl ?_
  refine step_sent m ρ K 7 (by decide +kernel) (by decide +kernel) (by decide +kernel) (by decide +kernel) rfl rfl ?_
  exact runs_ret c _ _

/-- Part 26 of the body: copy 14's reading is awaited, copy 15's reading is awaited, copy 8 from a neighbour is awaited and copy 17 from a neighbour is awaited. -/
theorem part26 (c : Dev nD) (v2 : BitVec 32) (v25 : BitVec 32) (v28 : BitVec 32) (v41 : BitVec 32) (v44 : BitVec 32) :
    hold m ρ K c S25 ⊢ runs c (k0_part26 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v25 v28 v41 v44) fun _ => hold m ρ K c S26 := by
  rw [k0_part26_eq_skeleton]; unfold k0_part26_skel runs
  simp only [Prog.lift, Prog.bind_op, Prog.bind_ret, Prog.pure_eq_ret]
  refine step_sent m ρ K 14 (by decide +kernel) (by decide +kernel) (by decide +kernel) (by decide +kernel) rfl rfl ?_
  refine step_sent m ρ K 15 (by decide +kernel) (by decide +kernel) (by decide +kernel) (by decide +kernel) rfl rfl ?_
  refine step_recv m ρ K 8 (by decide +kernel) (by decide +kernel) (by decide +kernel) (by decide +kernel) rfl rfl ?_
  refine step_recv m ρ K 17 (by decide +kernel) (by decide +kernel) (by decide +kernel) (by decide +kernel) rfl rfl ?_
  exact runs_ret c _ _

/-- Part 27 of the body: copy 8's reading is awaited, copy 17's reading is awaited and copy 25 is issued. -/
theorem part27 (c : Dev nD) (v5 : BitVec 32) (v8 : BitVec 32) (v9 : BitVec 32) (v12 : BitVec 32) (v48 : BitVec 32) :
    hold m ρ K c S26 ⊢ runs c (k0_part27 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v12 v48) fun _ => hold m ρ K c S27 := by
  rw [k0_part27_eq_skeleton]; unfold k0_part27_skel runs
  simp only [Prog.lift, Prog.bind_op, Prog.bind_ret, Prog.pure_eq_ret]
  refine step_sent m ρ K 8 (by decide +kernel) (by decide +kernel) (by decide +kernel) (by decide +kernel) rfl rfl ?_
  refine step_sent m ρ K 17 (by decide +kernel) (by decide +kernel) (by decide +kernel) (by decide +kernel) rfl rfl ?_
  refine step_out m ρ K 25 (by decide +kernel) (dev27 c) (by decide +kernel) (by decide +kernel) (by decide +kernel) (by decide +kernel) rfl rfl rfl (off6_25 c) rfl ?_
  exact runs_ret c _ _

/-- Part 28 of the body: copy 18 from a neighbour is awaited, copy 18's reading is awaited, copy 19 from a neighbour is awaited and copy 19's reading is awaited. -/
theorem part28 (c : Dev nD) (v5 : BitVec 32) (v8 : BitVec 32) (v9 : BitVec 32) (c8_i32_641 : BitVec 32) :
    hold m ρ K c S27 ⊢ runs c (k0_part28 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 c8_i32_641) fun _ => hold m ρ K c S28 := by
  rw [k0_part28_eq_skeleton]; unfold k0_part28_skel runs
  simp only [Prog.lift, Prog.bind_op, Prog.bind_ret, Prog.pure_eq_ret]
  refine step_recv m ρ K 18 (by decide +kernel) (by decide +kernel) (by decide +kernel) (by decide +kernel) rfl rfl ?_
  refine step_sent m ρ K 18 (by decide +kernel) (by decide +kernel) (by decide +kernel) (by decide +kernel) rfl rfl ?_
  refine step_recv m ρ K 19 (by decide +kernel) (by decide +kernel) (by decide +kernel) (by decide +kernel) rfl rfl ?_
  refine step_sent m ρ K 19 (by decide +kernel) (by decide +kernel) (by decide +kernel) (by decide +kernel) rfl rfl ?_
  exact runs_ret c _ _

/-- Part 29 of the body: copy 20 from a neighbour is awaited, copy 20's reading is awaited, copy 21 from a neighbour is awaited and copy 21's reading is awaited. -/
theorem part29 (c : Dev nD) (v5 : BitVec 32) (v8 : BitVec 32) (v9 : BitVec 32) (v924 : BitVec 32) (c0_i32_668 : BitVec 32) :
    hold m ρ K c S28 ⊢ runs c (k0_part29 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v924 c0_i32_668) fun _ => hold m ρ K c S29 := by
  rw [k0_part29_eq_skeleton]; unfold k0_part29_skel runs
  simp only [Prog.lift, Prog.bind_op, Prog.bind_ret, Prog.pure_eq_ret]
  refine step_recv m ρ K 20 (by decide +kernel) (by decide +kernel) (by decide +kernel) (by decide +kernel) rfl rfl ?_
  refine step_sent m ρ K 20 (by decide +kernel) (by decide +kernel) (by decide +kernel) (by decide +kernel) rfl rfl ?_
  refine step_recv m ρ K 21 (by decide +kernel) (by decide +kernel) (by decide +kernel) (by decide +kernel) rfl rfl ?_
  refine step_sent m ρ K 21 (by decide +kernel) (by decide +kernel) (by decide +kernel) (by decide +kernel) rfl rfl ?_
  exact runs_ret c _ _

/-- Part 30 of the body: copy 22 from a neighbour is awaited, copy 22's reading is awaited, copy 23 from a neighbour is awaited and copy 23's reading is awaited. -/
theorem part30 (c : Dev nD) (v5 : BitVec 32) (v8 : BitVec 32) (v9 : BitVec 32) (v953 : BitVec 32) (c4_i32_695 : BitVec 32) :
    hold m ρ K c S29 ⊢ runs c (k0_part30 xM (Memref.isWhole_whole _) oM (Memref.isWhole_whole _) pM (Memref.isWhole_whole _) cc0_scratch1 cc0_scratch2 cc0_scratch3 cc0_scratch4 cc0_scratch5 cc0_scratch6 cc0_scratch7 cc0_scratch8 c v5 v8 v9 v953 c4_i32_695) fun _ => hold m ρ K c S30 := by
  rw [k0_part30_eq_skeleton]; unfold k0_part30_skel runs
  simp only [Prog.lift, Prog.bind_op, Prog.bind_ret, Prog.pure_eq_ret]
  refine step_recv m ρ K 22 (by decide +kernel) (by decide +kernel) (by decide +kernel) (by decide +kernel) rfl rfl ?_
  refine step_sent m ρ K 22 (by decide +kernel) (by decide +kernel) (by decide +kernel) (by decide +kernel) rfl rfl ?_
  refine step_recv m ρ K 23 (by decide +kernel) (by decide +kernel) (by decide +kernel) (by decide +kernel) rfl rfl ?_
  refine step_sent m ρ K 23 (by decide +kernel) (by decide +kernel) (by decide +kernel) (by decide +kernel) rfl rfl ?_
  exact runs_ret c _ _

/-! ## The whole body -/

/-- One part after another, where the first also hands on a fact about what it returns. -/
theorem runs_seq_of {α β : Type} {c : Dev nD} {p : Prog (TpuEff nD τ sig (Elt F) Λ₀ .tc) α} {k : α → Prog (TpuEff nD τ sig (Elt F) Λ₀ .tc) β}
    {R R' : sProp 𝕄} {Q : β → sProp 𝕄} {φ : α → Prop} (hp : R ⊢ runs c p fun a => iprop(⌜φ a⌝ ∗ R')) (hk : ∀ a, φ a → R' ⊢ runs c (k a) Q) :
    R ⊢ runs c (p >>= k) Q := by
  show R ⊢ wp frame (wpE (defs₀ (F := F)) 𝒱₀ (c : Thread nD τ) none) Set.univ (p >>= k) Q
  rw [wp_bind]
  refine hp.trans (wp_mono _ _ _ fun a => ?_)
  show (iprop(⌜φ a⌝ ∗ R') : sProp 𝕄) ⊢ runs c (k a) Q
  iintro ⟨%h, H⟩
  iapply (hk a h)
  iassumption

/-- A returned value with a fact about it. -/
theorem runs_ret_of {α : Type} {c : Dev nD} {R : sProp 𝕄} {φ : α → Prop} (a : α) (h : φ a) :
    R ⊢ runs c (Prog.ret a) fun a => iprop(⌜φ a⌝ ∗ R) := by
  unfold runs
  rw [wp_ret]
  iintro H
  imodintro
  isplitr
  · ipureintro; exact h
  · iassumption

/-- The first part reads the device's number. -/
theorem part1 (c : Dev nD) : pre m ρ K c Finset.univ
    ⊢ runs c (k0_part1 xM (Memref.isWhole_whole _) oM (Memref.isWhole_whole _) pM (Memref.isWhole_whole _) cc0_scratch1 cc0_scratch2 cc0_scratch3 cc0_scratch4 cc0_scratch5 cc0_scratch6 cc0_scratch7 cc0_scratch8) fun r => iprop(⌜r.1 = c⌝ ∗ pre m ρ K c Finset.univ) := by
  rw [k0_part1_eq_skeleton]; unfold k0_part1_skel runs
  simp only [semSignalWord, Prog.lift, Prog.bind_op, Prog.bind_ret, Prog.pure_eq_ret, wp_deviceId]
  exact runs_ret_of _ rfl

/-- The second part signals the partner and the front neighbour, and names the handshake's semaphore. -/
theorem part2 (c : Dev nD) (v2 v5 v8 v9 v25 v28 v31 v32 c0 : BitVec 32) : pre m ρ K c Finset.univ
    ⊢ runs c (k0_part2 xM (Memref.isWhole_whole _) oM (Memref.isWhole_whole _) pM (Memref.isWhole_whole _) cc0_scratch1 cc0_scratch2 cc0_scratch3 cc0_scratch4 cc0_scratch5 cc0_scratch6 cc0_scratch7 cc0_scratch8 c v2 v5 v8 v9 v25 v28 v31 v32 c0)
      fun r => iprop(⌜r.2.2.2.2.2.1 = SemArray.scalar (sig.barrier 0 rfl)⌝ ∗ pre m ρ K c {.b}) := by
  rw [k0_part2_eq_skeleton]; unfold k0_part2_skel runs
  simp only [semSignalWord, Prog.lift, Prog.bind_op, Prog.bind_ret, Prog.pure_eq_ret, wp_deviceId]
  refine step_signal m ρ K .p (by decide +kernel) (dev1 c) (by decide) rfl ?_
  refine step_signal m ρ K .f (by decide +kernel) (dev2 c) (by decide) rfl ?_
  rw [show (Finset.univ.erase Dir.p).erase Dir.f = {Dir.b} by decide]
  exact runs_ret_of _ rfl

/-- All but the last two waits. -/
theorem part31 (c : Dev nD) : pre m ρ K c Finset.univ
    ⊢ runs c (k0_part31 (F := F) xM (Memref.isWhole_whole _) oM (Memref.isWhole_whole _) pM (Memref.isWhole_whole _) cc0_scratch1 cc0_scratch2 cc0_scratch3 cc0_scratch4 cc0_scratch5 cc0_scratch6 cc0_scratch7 cc0_scratch8) fun r => iprop(⌜r.1 = c⌝ ∗ hold m ρ K c S31) := by
  rw [k0_part31_eq_skeleton]; unfold k0_part31_skel
  refine runs_seq_of (part1 m ρ K c) fun r hr => ?_
  obtain ⟨d0, v2, v5, v8, v9, v12, v25, v28, v31, v32, c0⟩ := r
  obtain rfl : d0 = c := hr
  refine runs_seq_of (part2 m ρ K d0 _ _ _ _ _ _ _ _ _) fun r hr => ?_
  obtain ⟨v41, v44, v45, v47, v48, v49, v65⟩ := r
  obtain rfl : v49 = SemArray.scalar (sig.barrier 0 rfl) := hr
  refine runs_seq (part3 m ρ K d0 _ _ _ _ _ _ _) fun r3 => ?_
  refine runs_seq (part4 m ρ K d0 _ _ _ _ _ _) fun r4 => ?_
  refine runs_seq (part5 m ρ K d0 _ _ _ _ _ _ _) fun r5 => ?_
  refine runs_seq (part6 m ρ K d0 _ _ _ _ _ _) fun r6 => ?_
  obtain ⟨_, _, _⟩ := r6
  refine runs_seq (part7 m ρ K d0 _ _ _ _ _ _ _ _ _) fun r7 => ?_
  obtain ⟨_, _⟩ := r7
  refine runs_seq (part8 m ρ K d0 _ _ _ _ _ _ _ _) fun r8 => ?_
  refine runs_seq (part9 m ρ K d0 _ _ _ _ _ _) fun r9 => ?_
  refine runs_seq (part10 m ρ K d0 _ _ _ _ _) fun r10 => ?_
  refine runs_seq (part11 m ρ K d0 _ _ _ _ _ _ _ _) fun r11 => ?_
  refine runs_seq (part12 m ρ K d0 _ _ _ _ _) fun r12 => ?_
  refine runs_seq (part13 m ρ K d0 _ _ _ _ _) fun r13 => ?_
  obtain ⟨_, _, _⟩ := r13
  refine runs_seq (part14 m ρ K d0 _ _ _ _ _ _ _) fun r14 => ?_
  refine runs_seq (part15 m ρ K d0 _ _ _ _ _) fun r15 => ?_
  obtain ⟨_, _⟩ := r15
  refine runs_seq (part16 m ρ K d0 _ _ _ _ _ _ _) fun r16 => ?_
  refine runs_seq (part17 m ρ K d0 _ _ _ _ _ _ _ _) fun r17 => ?_
  refine runs_seq (part18 m ρ K d0 _ _ _ _ _) fun r18 => ?_
  refine runs_seq (part19 m ρ K d0 _ _ _ _ _) fun r19 => ?_
  refine runs_seq (part20 m ρ K d0 _ _ _ _ _) fun r20 => ?_
  refine runs_seq (part21 m ρ K d0 _ _ _ _) fun r21 => ?_
  obtain ⟨_, _, _, _⟩ := r21
  refine runs_seq (part22 m ρ K d0 _ _ _ _ _ _ _ _ _) fun r22 => ?_
  obtain ⟨_, _, _⟩ := r22
  refine runs_seq (part23 m ρ K d0 _ _ _ _ _ _ _ _ _ _) fun r23 => ?_
  obtain ⟨_, _⟩ := r23
  refine runs_seq (part24 m ρ K d0 _ _ _ _ _ _ _) fun r24 => ?_
  obtain ⟨_, _, _⟩ := r24
  refine runs_seq (part25 m ρ K d0 _ _ _ _ _ _ _) fun r25 => ?_
  refine runs_seq (part26 m ρ K d0 _ _ _ _ _) fun r26 => ?_
  refine runs_seq (part27 m ρ K d0 _ _ _ _ _) fun r27 => ?_
  refine runs_seq (part28 m ρ K d0 _ _ _ _) fun r28 => ?_
  obtain ⟨_, _⟩ := r28
  refine runs_seq (part29 m ρ K d0 _ _ _ _ _) fun r29 => ?_
  obtain ⟨_, _⟩ := r29
  refine runs_seq (part30 m ρ K d0 _ _ _ _ _) fun r30 => ?_
  simp only [Prog.lift, Prog.bind_op, Prog.bind_ret, Prog.pure_eq_ret]
  unfold runs
  refine step_recv m ρ K 24 (by decide +kernel) (by decide +kernel) (by decide +kernel) (by decide +kernel) rfl rfl ?_
  refine step_sent m ρ K 24 (by decide +kernel) (by decide +kernel) (by decide +kernel) (by decide +kernel) rfl rfl ?_
  exact runs_ret_of _ rfl

/-- The body, from the handshake to the last wait. -/
theorem body_run (c : Dev nD) : pre m ρ K c Finset.univ
    ⊢ runs c (cc0_body (F := F) xM (Memref.isWhole_whole _) oM (Memref.isWhole_whole _) pM (Memref.isWhole_whole _) cc0_scratch1 cc0_scratch2 cc0_scratch3 cc0_scratch4 cc0_scratch5 cc0_scratch6 cc0_scratch7 cc0_scratch8) fun _ => hold m ρ K c S32 := by
  rw [cc0_body_eq_skeleton]; unfold cc0_body_skel
  refine runs_seq_of (part31 m ρ K c) fun r hr => ?_
  obtain ⟨d0, v8, v997, c1⟩ := r
  obtain rfl : d0 = c := hr
  simp only [Prog.lift, Prog.bind_op, Prog.bind_ret, Prog.pure_eq_ret]
  unfold runs
  refine step_recv m ρ K 25 (by decide +kernel) (by decide +kernel) (by decide +kernel) (by decide +kernel) rfl rfl ?_
  refine step_sent m ρ K 25 (by decide +kernel) (by decide +kernel) (by decide +kernel) (by decide +kernel) rfl rfl ?_
  exact runs_ret _ _ _

end Cert.Planes

end
-- ==== Proof.Launch.lean ====
/-
The launch: the body's obligation at the single grid point, the ghost state and the credits dealt to the devices, and
the run of the whole program from any memory.
-/
module

public import proofs.«01_k».proof.Proof.Body
public import Idealize.ShloMosaic.Lib.Pipeline.CollectiveSegs

@[expose] public section

noncomputable section

namespace Cert.Planes

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The body's obligation -/

/-- The grid has one point. -/
theorem cfg0_N : cfg0.N = 1 := by decide
/-- The single grid point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The launch's ghost state of a device without the levels. -/
def ghost₀ (c : Dev nD) : sProp 𝕄 :=
  iprop(((bigSep Finset.univ fun ck : Dev nD × CK => cellInv ER (rd m ρ) (K ck) (cell ck.1 ck.2))
      ∗ bigSep Finset.univ fun ck : Dev nD × CK => reached ER (cell ck.1 ck.2) 0)
    ∗ (bigSep Finset.univ fun k : CK => atPos ER (cell c k) 0 ∅ 0)
    ∗ (bigSep Finset.univ fun d : Dir => dutyTok ER (barCell (nbr d c)) 0 d)
    ∗ bigSep Finset.univ fun a : Sl => iprop(dutyTok ER (sendCell a c) 0 .p ∗ dutyTok ER (recvCell a (tgt a c)) 0 .p))

/-- With the levels it is what the body starts from. -/
theorem ghost_levels (c : Dev nD) : iprop(ghost₀ m ρ K c ∗ lvs (F := F)) ⊢ ghost m ρ K c := by
  unfold ghost₀ ghost recs
  iintro ⟨⟨⟨HI, HR⟩, H⟩, HL⟩
  isplitr [H]
  · isplitl [HI]; · iexact HI
    isplitl [HR] <;> iassumption
  iexact H

/-- What a device's body starts from, the landing buffer aside. -/
def start (c : Dev nD) : sProp 𝕄 := iprop((∃ K, ghost₀ m ρ K c) ∗ creds (F := F) c ∗ lvs (F := F))

/-- Before the point: that, and the landing buffer at any contents. -/
def Φ₀ (c : Dev nD) : sProp 𝕄 := iprop(start m ρ c ∗ ∃ g, lp c ↦{fullShare} g)
/-- After the point: the landing buffer with what the first exchange landed, every cell closed at zero. -/
def Φ₁ (c : Dev nD) : sProp 𝕄 :=
  iprop((lp c ↦{fullShare} got m ρ c) ∗ bigSep Finset.univ fun k : CK => semVal (cell c k) 0)

/-- The proof data of the one call: what the windows hold after the body, what a device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => res m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A conjunction over the two windows. -/
theorem bigSep_W (Φ : Fin cfg0.W → sProp 𝕄) : bigSep Finset.univ Φ = iprop(Φ (0 : Fin 2) ∗ Φ (1 : Fin 2)) := bigSep_W0 Φ

/-- The argument is fetched at the point. -/
theorem fetch_0 (t : Fin cfg0.N) : (cfg0.win (0 : Fin 2)).fetch t = true := by rw [fin_N t]; rfl

omit [FloatOps F] in
/-- Owning a whole buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
/-- What the point starts from. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What the point ends in. -/
def bodyPost (c : Dev nD) : sProp 𝕄 :=
  iprop(Φ₁ m ρ c ∗ (dats m ρ 0 c).owesAt () t₀.succ ∗ stg c cc0_stg0_0 (xstg m ρ c) ∗ stg c cc0_stg1_0 (res m ρ c))

/-- The state after the last wait gives all that the point owes. -/
theorem body_end (c : Dev nD) : hold m ρ K c S32 ⊢ bodyPost m ρ c := by
  refine (ended m ρ K c (by decide +kernel) (by decide +kernel) (by decide +kernel) (by decide +kernel)).trans ?_
  unfold bodyPost Φ₁ Dat.owesAt Pipeline.owesWithin
  rw [show (dats m ρ 0 c).owed t₀.succ = 0 from rfl]
  iintro ⟨⟨%S, HO⟩, Hz, Hx, Ho, Hp⟩
  isplitl [Hp Hz]
  · isplitl [Hp] <;> iassumption
  isplitl [HO]
  · iexists S
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 40000 in
/-- The body obligation of the launch, on device `c`. -/
theorem body_obligation (c : Dev nD) : BodyObligation (dats (F := F) m ρ 0 c) (defs₀ (F := F)) 𝒱₀ () Set.univ := fun t => by
  rw [fin_N t, bigSep_W, bigSep_W]
  simp only [owns_whole_eq]
  show bodyPre m ρ c ⊢ wp frame (wpE (defs₀ (F := F)) 𝒱₀ c none) Set.univ
    (cc0_body xM (Memref.isWhole_whole _) oM (Memref.isWhole_whole _) pM (Memref.isWhole_whole _)
      cc0_scratch1 cc0_scratch2 cc0_scratch3 cc0_scratch4 cc0_scratch5 cc0_scratch6 cc0_scratch7 cc0_scratch8) (fun _ => bodyPost m ρ c)
  unfold bodyPre Φ₀ start Dat.owesAt Pipeline.owesWithin
  rw [show (dats m ρ 0 c).owed t₀.castSucc = O₀ c from rfl]
  iintro ⟨⟨⟨⟨%K, HG⟩, HC, HL⟩, ⟨%g, Hp⟩⟩, ⟨%S, %hS, HO⟩, ⟨%d0, %g0, %hg0, Hx⟩, ⟨%d1, %g1, %hg1, Ho⟩⟩
  have hx : g0 = xstg m ρ c := by rw [hg0]; unfold Dat.before; rw [if_pos (fetch_0 t₀)]; rfl
  subst hx
  ihave HG' := (ghost_levels m ρ K c) $$ [HG HL]
  · isplitl [HG] <;> iassumption
  imod (opened m ρ K c S g1 g) $$ [HG' HC HO Hx Ho Hp] with H
  · isplitl [HG']; · iexact HG'
    isplitl [HC]; · iexact HC
    isplitl [HO]; · iexact HO
    isplitl [Hx]; · iexact Hx
    isplitl [Ho] <;> iassumption
  iapply ((body_run m ρ K c).trans (wp_mono _ _ _ fun _ => body_end m ρ K c))
  iexact H

/-! ## The ghost state dealt out -/

/-- The kernel's own semaphores: two for every slot. -/
abbrev osem : Sl × Bool → SemLoc sig := fun k => csem (some k)

/-- The kernel's own semaphores are its scratch ones. -/
theorem ownSemFacts : Pipeline.OwnSemFacts cfg0.spec osem where
  isScoped := by decide +kernel
  inj := fun k k' h => Option.some_injective _ (csem_injective h)
  disj := by decide +kernel

/-- Every window is held whole. -/
theorem share_eq (c : Dev nD) (w : Fin cfg0.W) : (dats m ρ 0 c).share w = fullShare := by unfold Dat.share; split <;> rfl

/-- The protocol's cells. -/
def planeCells : Finset (GSem nD τ sig) := Finset.univ.map ⟨fun ck : Dev nD × CK => cell ck.1 ck.2, cell_injective⟩

/-- The tokens minted: one per cell and direction (a slot's cell uses one of its three). -/
def planeToks : Finset (GSem nD τ sig × ℕ × Dir) :=
  Finset.univ.map ⟨fun x : (Dev nD × CK) × Dir => (cell x.1.1 x.1.2, 0, x.2), fun x y h => by
    have h1 : x.1 = y.1 := cell_injective (congrArg Prod.fst h)
    have h2 : x.2 = y.2 := congrArg (fun z : GSem nD τ sig × ℕ × Dir => z.2.2) h
    exact Prod.ext h1 h2⟩

/-- The launch element: the staging's part and the protocol's. -/
def u₀ : UU :=
  (initOf (Pipeline.cells cfgs cellOf_inj) (Pipeline.launchToks cfgs cellOf_inj), initOf planeCells planeToks)

/-- The tokens of a device's own cells. -/
def toks (c : Dev nD) : sProp 𝕄 := bigSep Finset.univ fun k : CK => bigSep Finset.univ fun d : Dir => dutyTok ER (cell c k) 0 d

/-- What the launch element deals a device. -/
def G (c : Dev nD) : sProp 𝕄 :=
  iprop((bigSep Finset.univ fun k : CK => roundState ER (rd m ρ) (cell c k) 0)
    ∗ (bigSep Finset.univ fun k : CK => iprop(atPos ER (cell c k) 0 ∅ 0 ∗ reached ER (cell c k) 0)) ∗ toks c)

/-- What the devices together make of it. -/
def G' (c : Dev nD) : sProp 𝕄 := iprop(∃ K, ghost₀ m ρ K c)

/-- The launch element is every device's invariants-to-be and tokens. -/
theorem fund_planes : BI.own (ER (initOf planeCells planeToks)) ⊢ (|==> bigSep Finset.univ (G m ρ) : sProp 𝕄) := by
  have hX (Φ : GSem nD τ sig → sProp 𝕄) : bigSep planeCells Φ = bigSep Finset.univ fun c : Dev nD => bigSep Finset.univ fun k : CK => Φ (cell c k) := by
    unfold planeCells; rw [bigSep_map, bigSep_univ_prod]; rfl
  have hT : bigSep planeToks (fun x => (dutyTok ER x.1 x.2.1 x.2.2 : sProp 𝕄)) = bigSep Finset.univ fun c : Dev nD => toks c := by
    unfold planeToks; rw [bigSep_map, bigSep_univ_prod, bigSep_univ_prod]; rfl
  iintro HX
  imod (Rounds.fund ER (rd m ρ) planeCells planeToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's protocol semaphores are its own and the barrier's. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : CK => semVal (cell c k) 0 : sProp 𝕄) := by
  have h : (Finset.univ : Finset CK) = insert none (Finset.univ.map Function.Embedding.some) := by
    ext k; cases k <;> simp
  have hu : (unscopedSems0 c : sProp 𝕄) = semVal (barCell c) 0 := by
    unfold unscopedSems0; rw [bigSep_eq_bigSepL_of_eq [SemLoc.reg barS] (by decide) (by decide)]; rfl
  have hs : (bigSep Finset.univ fun k : CK => semVal (cell c k) 0 : sProp 𝕄)
      = iprop(semVal (barCell c) 0 ∗ bigSep Finset.univ fun k : Sl × Bool => semVal (cell c (some k)) 0) := by
    rw [h, bigSep_insert (by simp), bigSep_map]; rfl
  rw [hs, hu]
  have hc := Laws.sep_comm (P := (Pipeline.ownSems0 (Ix := Unit) (Name := ℕ) (U := UU) (Lvl := ℕ) (Val := Elt F) (τ := τ) osem c : sProp 𝕄)) (Q := semVal (barCell c) 0)
  have e := BI.equiv_iff.mp ⟨hc.1, hc.2⟩
  exact e

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (cell c k) 0) ∗ bigSep Finset.univ fun k : CK => roundState ER (rd m ρ) (cell c k) 0)
      ⊢ (|={Set.univ}=> bigSep Finset.univ fun k : CK => iprop(∃ κ : ℕ, cellInv ER (rd m ρ) κ (cell c k)) : sProp 𝕄) from by
        rw [← bigSep_sep']
        exact (bigSep_mono fun k _ => (Rounds.body_intro ER (rd m ρ) (cell c k)).trans inv_alloc).trans (bigSep_fupd _ _)) $$ [Hv Hst] with Hinv
  · isplitl [Hv] <;> iassumption
  imodintro
  isplitl [Hinv]; · iexact Hinv
  isplitl [Hat] <;> iassumption

/-- The tokens of the duties a device pays. -/
def payToks (c : Dev nD) : sProp 𝕄 :=
  iprop((bigSep Finset.univ fun d : Dir => dutyTok ER (barCell (nbr d c)) 0 d)
    ∗ bigSep Finset.univ fun a : Sl => iprop(dutyTok ER (sendCell a c) 0 .p ∗ dutyTok ER (recvCell a (tgt a c)) 0 .p))

omit [FloatOps F] in
/-- A family over the devices, each member moved by a permutation of its own. -/
theorem around {I : Type} [Fintype I] (e : I → Dev nD ≃ Dev nD) (Φ : I → Dev nD → sProp 𝕄) :
    (bigSep Finset.univ fun c => bigSep Finset.univ fun i => Φ i c) = bigSep Finset.univ fun c => bigSep Finset.univ fun i => Φ i (e i c) := by
  rw [BI.bigSep_univ_comm, BI.bigSep_univ_comm (fun c i => Φ i (e i c))]
  exact bigSep_congr fun i _ => bigSep_univ_equiv (e i) (Φ i)

/-- Of a device's own tokens: its barrier's three, one of each slot's cell. -/
theorem toks_own (c : Dev nD) : (toks c : sProp 𝕄) ⊢ iprop((bigSep Finset.univ fun d : Dir => dutyTok ER (barCell c) 0 d)
    ∗ (bigSep Finset.univ fun a : Sl => dutyTok ER (sendCell a c) 0 .p) ∗ bigSep Finset.univ fun a : Sl => dutyTok ER (recvCell a c) 0 .p) := by
  have h (b : Bool) : (bigSep Finset.univ fun a : Sl => bigSep Finset.univ fun d : Dir => (dutyTok ER (cell c (some (a, b))) 0 d : sProp 𝕄))
      ⊢ bigSep Finset.univ fun a : Sl => dutyTok ER (cell c (some (a, b))) 0 .p :=
    bigSep_mono fun a _ => bigSep_elim (Finset.mem_univ Dir.p)
  unfold toks
  rw [bigSep_ck]
  iintro ⟨H1, H2, H3⟩
  isplitl [H1]; · iexact H1
  isplitl [H2]
  · iapply (h false); iexact H2
  · iapply (h true); iexact H3

/-- The tokens dealt to the devices that pay the duties. -/
theorem toks_around : (bigSep Finset.univ fun c : Dev nD => (toks c : sProp 𝕄)) ⊢ bigSep Finset.univ fun c : Dev nD => payToks c := by
  refine (bigSep_mono fun c _ => toks_own c).trans ?_
  unfold payToks
  rw [bigSep_sep', bigSep_sep', bigSep_sep', around nbr (fun d c => (dutyTok ER (barCell c) 0 d : sProp 𝕄)),
    around (fun a => nbr (dirOf a)) (fun a c => (dutyTok ER (recvCell a c) 0 .p : sProp 𝕄)), ← bigSep_sep', ← bigSep_sep', ← bigSep_sep']
  refine bigSep_mono fun c _ => ?_
  rw [bigSep_sep']
  exact BI.Entails.refl _

/-- All invariants and marks with one device's positions and tokens are its launch state. -/
theorem ghost_intro (c : Dev nD) :
    iprop(iprop((bigSep Finset.univ fun ck : Dev nD × CK => cellInv ER (rd m ρ) (K ck) (cell ck.1 ck.2))
      ∗ bigSep Finset.univ fun ck : Dev nD × CK => reached ER (cell ck.1 ck.2) 0)
      ∗ iprop((bigSep Finset.univ fun k : CK => atPos ER (cell c k) 0 ∅ 0) ∗ payToks c)) ⊢ G' m ρ c := by
  unfold G' ghost₀ payToks
  iintro H
  iexists K
  iexact H

/-- What the devices allocate, dealt so that each holds every record and the tokens it pays with. -/
theorem regroup :
    (bigSep Finset.univ fun c : Dev nD => iprop((bigSep Finset.univ fun k : CK => iprop(∃ κ : ℕ, cellInv ER (rd m ρ) κ (cell c k)))
          ∗ (bigSep Finset.univ fun k : CK => iprop(atPos ER (cell c k) 0 ∅ 0 ∗ reached ER (cell c k) 0)) ∗ toks c) : sProp 𝕄)
      ⊢ bigSep Finset.univ (G' m ρ) := by
  rw [bigSep_sep', bigSep_sep', ← bigSep_univ_prod (fun ck : Dev nD × CK => iprop(∃ κ : ℕ, cellInv ER (rd m ρ) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (rd m ρ) κ (cell ck.1 ck.2) : sProp 𝕄))) $$ HI
  icases HK with ⟨%K, #HI⟩
  ihave Htk := (toks_around (F := F)) $$ Htok
  iapply (bigSep_with_persistent (fun c _ => ghost_intro m ρ K c))
  isplitr
  · isplitl; · iexact HI
    iexact HR
  · iapply (Entails.of_eq (bigSep_sep' Finset.univ (fun c : Dev nD => bigSep Finset.univ fun k : CK => (atPos ER (cell c k) 0 ∅ 0 : sProp 𝕄)) payToks).symm)
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two semaphores are the same when device and kind are. -/
theorem cell_eq_iff {c c' : Dev nD} {k k' : CK} : cell c k = cell c' k' ↔ c = c' ∧ k = k' :=
  ⟨fun h => by have := cell_injective (a₁ := (c, k)) (a₂ := (c', k')) h; exact ⟨congrArg Prod.fst this, congrArg Prod.snd this⟩,
    fun ⟨h1, h2⟩ => by rw [h1, h2]⟩

/-- A device is a neighbour when it is reached back by the inverse. -/
theorem nbr_eq_iff {d : Dir} {c e : Dev nD} : e = nbr d c ↔ c = (nbr d).symm e := by
  rw [Equiv.eq_symm_apply]; exact eq_comm

/-- What device `d` owes a barrier cell. -/
theorem owed_bar (d c : Dev nD) : O₀ d (barCell c) () = ∑ r : Dir, if d = (nbr r).symm c then 1 else 0 := by
  rw [O₀_eq, Pi.add_apply, Finsupp.add_apply, Finset.sum_apply, Finsupp.finset_sum_apply]
  rw [show owedS d used (barCell c) () = 0 from by
    unfold owedS
    rw [Finset.sum_apply, Finsupp.finset_sum_apply]
    exact Finset.sum_eq_zero fun a _ => by
      rw [tallyAt_apply, if_neg]; rintro ⟨h, -⟩; exact absurd (cell_eq_iff.mp h).2 (by simp), Nat.zero_add]
  refine Finset.sum_congr rfl fun r _ => ?_
  unfold owedB
  rw [tallyAt_apply]
  refine if_congr ?_ rfl rfl
  rw [cell_eq_iff, and_iff_left rfl, and_iff_left rfl, nbr_eq_iff]

/-- What device `d` owes a used slot's receive cell. -/
theorem owed_recv (d c : Dev nD) (a : Sl) (ha : a ∈ used) : O₀ d (recvCell a c) () = if d = (nbr (dirOf a)).symm c then amt a else 0 := by
  rw [O₀_eq, Pi.add_apply, Finsupp.add_apply, Finset.sum_apply, Finsupp.finset_sum_apply,
    Finset.sum_eq_zero (s := Finset.univ) (f := fun r : Dir => owedB d r (recvCell a c) ()) fun r _ => by
      unfold owedB
      rw [tallyAt_apply, if_neg]; rintro ⟨h, -⟩; exact absurd (cell_eq_iff.mp h).2 (by simp), Nat.add_zero]
  unfold owedS
  rw [Finset.sum_apply, Finsupp.finset_sum_apply, Finset.sum_eq_single a]
  · rw [tallyAt_apply]
    refine if_congr ?_ rfl rfl
    rw [cell_eq_iff, and_iff_left rfl, and_iff_left rfl, nbr_eq_iff]
  · intro b _ hb
    rw [tallyAt_apply, if_neg]
    rintro ⟨h, -⟩
    have := (cell_eq_iff.mp h).2
    simp only [Option.some.injEq, Prod.mk.injEq, and_true] at this
    exact hb this.symm
  · intro h; exact absurd ha h

/-- A device's barrier gets its three units of credit from the launch. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => Finset.sum_ite_eq' Finset.univ ((nbr r).symm c) fun _ => 1]
  simp only [Finset.mem_univ, if_true]
  rfl

/-- A used slot's receive semaphore gets its copy's credit from the launch. -/
theorem launch_recv (c : Dev nD) (a : Sl) (ha : a ∈ used) :
    tallyOn (recvCell a c) (launchCredit (Pipeline.owing O₀) 0 (recvCell a c)) = (tallyAt (recvCell a c) () (amt a) : CellTallies nD τ sig Unit) := by
  unfold tallyAt; refine congrArg _ (Finsupp.ext fun u => ?_); cases u
  rw [Pipeline.launchCredit_owing, Finsupp.single_eq_same, Finset.sum_congr rfl fun d _ => owed_recv d c a ha,
    Finset.sum_ite_eq' Finset.univ ((nbr (dirOf a)).symm c) fun _ => amt a, if_pos (Finset.mem_univ _)]

/-- The launch's credit of a device holds the credits its body spends. -/
theorem creds_intro (c : Dev nD) : (Pipeline.launchCred O₀ c : sProp 𝕄) ⊢ creds (F := F) c := by
  have hr : (bigSep (Finset.univ.erase (SemLoc.reg barS)) fun sm : SemLoc sig => cred (tallyOn ((c : Thread nD τ), sm) (launchCredit (Pipeline.owing O₀) 0 ((c : Thread nD τ), sm))) : sProp 𝕄)
      ⊢ bigSep used fun a => cred (tallyAt (recvCell a c) () (amt a)) := by
    refine (bigSep_subset (t := used.map ⟨fun a => csem (some (a, true)), fun a b h => by
      have := csem_injective h; simpa using this⟩) fun sm h => ?_).trans ?_
    · obtain ⟨a, _, rfl⟩ := Finset.mem_map.mp h
      exact Finset.mem_erase.mpr ⟨fun h => absurd (csem_injective (a₁ := some (a, true)) (a₂ := none) h) (by simp), Finset.mem_univ _⟩
    · rw [bigSep_map]
      exact bigSep_mono fun a ha => by rw [← launch_recv c a ha]; exact BI.Entails.refl _
  unfold Pipeline.launchCred creds
  rw [bigSep_univ_at _ (SemLoc.reg barS), show ((c : Thread nD τ), SemLoc.reg barS) = barCell c from rfl, launch_bar]
  iintro ⟨H1, H2⟩
  isplitl [H1]; · iexact H1
  iapply hr; iexact H2

/-! ## The side conditions of the launch -/

/-- What the launch deals a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G' lvs
  isplitl
  · isplitl [HG]; · iexact HG
    isplitl [Hc] <;> iassumption
  · iempintro

/-- With the scratch buffer, that is the state before the point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H⟩
  isplitl [Hs] <;> iassumption

/-- The state after the point gives the scratch back with every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [← sems0_eq]
  iintro ⟨Hp, Ho, Hu⟩
  isplitl [Hu]; · iexact Hu
  isplitl [Ho]; · iexact Ho
  iexists (got m ρ c); iexact Hp

/-- The staging's semaphores may be waited on at any time. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The final contents of an array. -/
def finalA (c : Dev nD) (w : Fin cfg0.W) : Buf (Elt F) ((cfg0.win w).arr.view.loc (c : Thread nD τ)) := (dats m ρ 0 c).arrAt w cfg0.N

/-- The arrays of every device hold their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every weakly fair run of the sixteen devices
    terminates with the arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_planes m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Planes

end
-- ==== Proof.Value.lean ====
/-
The value: the result every device ends with, at ideal arithmetic, is the sum of the two halves of the whole argument,
which is what the reference computes.
-/
module

public import proofs.«01_k».proof.Proof.Launch
public import proofs.«01_k».proof.Proof.Gen.ReferenceIdeal.Run
public import Idealize.ShloMosaic.Lib.Layout
public import Idealize.ShloMosaic.Lib.Pipeline.Value
public import Idealize.ShloMosaic.Lib.Pointwise

@[expose] public section

noncomputable section

namespace Cert.Planes

open Cert.KernelIdeal Cert.KernelIdeal.Gen
open Idealize.ShloMosaic Idealize.ShloMosaic.TcCoe
open Idealize.SL.Sem

section AnyFloat

variable {F : FTy → Type} [FloatOps F]
variable (m : (ℓ : Loc nD τ sig) → Buf (Elt F) ℓ) (ρ : Dev nD → PrngReg)

/-- The staged argument is the whole argument array: the one block starts at the origin and has the array's size. -/
theorem xstg_eq (c : Dev nD) : xstg m ρ c = m ((c : Thread nD τ).loc main_arg0) :=
  Memref.read_access_unit_zero (Elt F) main_arg0
    (off := fun a => win0_0.index (0 : Fin 1) a * main_arg0.ty.shape.size a)
    (funext fun a => by fin_cases a <;> decide) (fun a => by fin_cases a <;> decide) _

/-- The result array ends as the staged result: the one grid point writes its block back, and the block is the array. -/
theorem finalA_out (c : Dev nD) : finalA m ρ c (1 : Fin 2) = res m ρ c := by
  have hw : (win0_1.blk (0 : Fin 1)).view.read (Elt F) (finalA m ρ c (1 : Fin 2)) = res m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt F) main_v1
    (off := fun a => win0_1.index (0 : Fin 1) a * main_v1.ty.shape.size a)
    (funext fun a => by fin_cases a <;> decide) (fun a => by fin_cases a <;> decide) _).symm.trans hw

end AnyFloat

/-- The shape of the whole argument. -/
abbrev SW : Shape := ⟨2, ![8192, 1024]⟩

/-- Element `i` of half `x` (0 or 1) of the whole argument. -/
def halfOf (w : FVec Ideal SW .f32) (x : Fin 2) (i : S4096x1024.Idx) : EReal :=
  w (ix2 ⟨4096 * x.val + (i 0).val, by have := x.isLt; have h : (i 0).val < 4096 := (i 0).isLt; omega⟩ ⟨(i 1).val, (i 1).isLt⟩)

/-- The block a device holds is the half its plane names. -/
theorem block_half (w : FVec Ideal SW .f32) (c : Dev nD) (x : Fin 2) (hx : plane c = x.val) (i : S4096x1024.Idx) :
    (Layout.blockN ⟨2, ![4096, 1024]⟩ SW (Layout.meshBlock [2, 2, 4] ![[0], []] c) w : FVec Ideal S4096x1024 .f32) i = halfOf w x i := by
  rw [Layout.blockN_apply]
  refine congrArg w (Shape.idx_ext₂ ?_ ?_)
  · rw [Layout.TilesN.idx_val]
    show Layout.meshLin [2, 2, 4] c.val [0] * 4096 + (i 0).val = 4096 * x.val + (i 0).val
    have : Layout.meshLin [2, 2, 4] c.val [0] = plane c := by clear hx; revert c; decide
    rw [this, hx]; omega
  · rw [Layout.TilesN.idx_val]
    show 0 * 1024 + (i 1).val = (i 1).val
    omega

/-- The reference's result, as the run of the reference states it. -/
abbrev refOut (w : FVec Ideal SW .f32) : FVec Ideal S4096x1024 .f32 :=
  Host.reduceAdd (shapeCast ⟨3, ![2, 4096, 1024]⟩ w Cert.ReferenceIdeal.Gen.shapeCasts_S8192x1024_S2x4096x1024)
    (constant Cert.ReferenceIdeal.S_ .f32 0x00000000#32) Cert.ReferenceIdeal.Gen.reducesTo_S2x4096x1024_S4096x1024_d0
    Cert.ReferenceIdeal.Gen.h_S_

/-- The reference's result is the sum of the two halves. -/
theorem refOut_apply (w : FVec Ideal SW .f32) (i : S4096x1024.Idx) :
    refOut w i = halfOf w 0 i + halfOf w 1 i := by
  have hc : ∀ x : Fin 2, shapeCast ⟨3, ![2, 4096, 1024]⟩ w Cert.ReferenceIdeal.Gen.shapeCasts_S8192x1024_S2x4096x1024
      (ix3 x ⟨(i 0).val, (i 0).isLt⟩ ⟨(i 1).val, (i 1).isLt⟩) = halfOf w x i := fun x =>
    shapeCast_apply w _ _ _ (by
      rw [Shape.rowMajor_val_two, Shape.rowMajor_val_three]
      show (4096 * x.val + (i 0).val) * 1024 + (i 1).val = (x.val * 4096 + (i 0).val) * 1024 + (i 1).val
      omega)
  have hz : (constant Cert.ReferenceIdeal.S_ .f32 0x00000000#32 : FVec Ideal Cert.ReferenceIdeal.S_ .f32)
      (Shape.Idx.first Cert.ReferenceIdeal.Gen.h_S_) = (0 : EReal) := by
    show Ideal.ofBits .f32 0x00000000#32 = 0
    simp [Ideal.ofBits, Ideal.ieee]
  rw [refOut, Host.reduceAdd_apply, hz]
  refine (Ideal.hostReduceAdd_r3_a0 _ _ _ _).trans ?_
  rw [Fin.sum_univ_two, zero_add]
  exact congrArg₂ (· + ·) (hc 0) (hc 1)

/-- The device of plane `x` at any ring place lies in plane `x`. -/
theorem plane_devAt (x : Fin 2) (r : ℕ) : plane (devAt x.val r) = x.val := by
  have hx := x.isLt
  simp only [plane, devAt]
  split <;> omega

/-- A device's plane is 0 or 1. -/
theorem plane_cases (c : Dev nD) : plane c = 0 ∨ plane c = 1 := by revert c; decide

section AtIdeal

variable (m : (ℓ : Loc nD τ sig) → Buf (Elt Ideal) ℓ) (ρ : Dev nD → PrngReg) (w : FVec Ideal SW .f32)
variable (hin : ∀ c : Dev nD, m ((c.tc : Thread nD τ).loc main_arg0)
  = Layout.blockN ⟨2, ![4096, 1024]⟩ SW (Layout.meshBlock [2, 2, 4] ![[0], []] c) w)

include hin

/-- The argument of plane `x` is half `x` of the whole argument. -/
theorem plX_half (x : Fin 2) (i : S4096x1024.Idx) : plX m ρ x.val i = halfOf w x i := by
  unfold plX
  rw [xstg_eq, hin]
  exact block_half w _ x (plane_devAt x _) i

/-- Every device's final result is the reference's: whichever half comes first, the sum is the same. -/
theorem res_ref (c : Dev nD) : res m ρ c = refOut w := by
  funext i
  have h0 : plX m ρ 0 i = halfOf w 0 i := plX_half m ρ w hin 0 i
  have h1 : plX m ρ 1 i = halfOf w 1 i := plX_half m ρ w hin 1 i
  have e01 : addf (plX m ρ 0) (plX m ρ 1) i = halfOf w 0 i + halfOf w 1 i := congrArg₂ (fun a b : EReal => a + b) h0 h1
  have e10 : addf (plX m ρ 1) (plX m ρ 0) i = halfOf w 0 i + halfOf w 1 i :=
    (congrArg₂ (fun a b : EReal => a + b) h1 h0).trans (add_comm (halfOf w 1 i) (halfOf w 0 i))
  rw [refOut_apply]
  unfold res
  rcases plane_cases c with h | h <;> rw [h] <;> split
  · exact e01
  · exact e10
  · exact e10
  · exact e01

end AtIdeal

end Cert.Planes

end
-- ==== Proof.lean ====
/-
The proof of the claims: the frame of the kernel, of its idealization and of the reference, that the idealization
preserves the kernel, and that the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- Over any float values: every run of the kernel terminates with the argument unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono
    (fun _ h => ⟨fun c => (h.1 c (0 : Fin 2)).trans (Cert.Planes.finalA_x m ρ c), h.2⟩)
    (Cert.Planes.run_main m ρ)

/-- The kernel's body table and its idealization's are the same: the two texts differ in name alone. -/
theorem bodies_eq {F : FTy → Type} [FloatOps F] : Cert.Kernel.defs₀ (F := F) = Cert.KernelIdeal.defs₀ (F := F) := by
  unfold Cert.Kernel.defs₀ Cert.KernelIdeal.defs₀
  refine congrArg (Defs.onTc (Λ := Cert.KernelIdeal.Λ₀)) ?_
  funext l x
  fin_cases l
  rfl

/-- So are the two programs' tables. -/
theorem tables_eq {F : FTy → Type} [FloatOps F] : Cert.Kernel.defs (F := F) = Cert.KernelIdeal.defs (F := F) :=
  congrArg (Pipeline.defs (Cert.KernelIdeal.pcfgs (F := F))) bodies_eq

/-- The frame of the kernel, on bit patterns. Its text and its idealization's are the same program, so the one run
    serves both. -/
theorem frame_kernel : Cert.quiescent_Kernel := fun m ρ _ => by
  rw [tables_eq]
  exact frame_any (F := Bits) m ρ

/-- The frame of the idealized kernel. -/
theorem frame_kernelIdeal : Cert.quiescent_KernelIdeal := fun m ρ _ => frame_any (F := Ideal) m ρ

/-- The frame of the reference, which has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealization replaced nothing. -/
theorem preserves : Cert.preserves_Kernel_KernelIdeal := trivial

/-- With ideal arithmetic every device of the kernel ends with the reference's result. -/
theorem algebraic : Cert.algebraic_KernelIdeal_ReferenceIdeal := fun m ρ m' ρ' _ hin =>
  ⟨Cert.Planes.refOut (m' ((0 : Dev Cert.ReferenceIdeal.nD).tc.loc Cert.ReferenceIdeal.main_arg0)),
    (θ_run Cert.KernelIdeal.defs _ _).mono
      (fun _ h c => ⟨(h.1 c (1 : Fin 2)).trans ((Cert.Planes.finalA_out m ρ c).trans (Cert.Planes.res_ref m ρ _ hin c)),
        (h.1 c (0 : Fin 2)).trans (Cert.Planes.finalA_x m ρ c)⟩)
      (Cert.Planes.run_main (F := Ideal) m ρ),
    (θ_run Cert.ReferenceIdeal.defs _ _).mono (fun _ h => h 0) (Cert.ReferenceIdeal.Value.run (F := Ideal) m' ρ')⟩

/-- Every claim. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
